-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x96x96 : Shape := ⟨4, ![2, 96, 96, 96]⟩
abbrev S2x1x3x3x3 : Shape := ⟨5, ![2, 1, 3, 3, 3]⟩
abbrev S2x2x3x3x3 : Shape := ⟨5, ![2, 2, 3, 3, 3]⟩
abbrev S2x2x1x1x1 : Shape := ⟨5, ![2, 2, 1, 1, 1]⟩
abbrev S54 : Shape := ⟨1, ![54]⟩
abbrev S108 : Shape := ⟨1, ![108]⟩
abbrev S4 : Shape := ⟨1, ![4]⟩
abbrev S382 : Shape := ⟨1, ![382]⟩
abbrev S1x96x96x96 : Shape := ⟨4, ![1, 96, 96, 96]⟩
abbrev S96x96x96 : Shape := ⟨3, ![96, 96, 96]⟩
abbrev S2x104x104x104 : Shape := ⟨4, ![2, 104, 104, 104]⟩
abbrev S104x104 : Shape := ⟨2, ![104, 104]⟩
abbrev S1x1x104x104 : Shape := ⟨4, ![1, 1, 104, 104]⟩
abbrev S1x96x96 : Shape := ⟨3, ![1, 96, 96]⟩
abbrev S96x96 : Shape := ⟨2, ![96, 96]⟩
abbrev S1x1x96x96 : Shape := ⟨4, ![1, 1, 96, 96]⟩
abbrev S8x104x104 : Shape := ⟨3, ![8, 104, 104]⟩
abbrev S1x8x104x104 : Shape := ⟨4, ![1, 8, 104, 104]⟩
abbrev S1 : Shape := ⟨1, ![1]⟩
abbrev S8x96x96 : Shape := ⟨3, ![8, 96, 96]⟩
abbrev S1x8x96x96 : Shape := ⟨4, ![1, 8, 96, 96]⟩
abbrev S2x1x96x96x96 : Shape := ⟨5, ![2, 1, 96, 96, 96]⟩

abbrev nBuf : Space → Nat
  | .hbm => 28
  | .vmem => 10
  | .smem => 2
  | _ => 0

abbrev bufTy : (tb : Table) → Fin (tcTables nBuf tb) → BufTy
  | .hbm, ⟨0, _⟩ => ⟨S2x96x96x96, .f32⟩
  | .hbm, ⟨1, _⟩ => ⟨S2x1x3x3x3, .f32⟩
  | .hbm, ⟨2, _⟩ => ⟨S2x2x3x3x3, .f32⟩
  | .hbm, ⟨3, _⟩ => ⟨S2x2x3x3x3, .f32⟩
  | .hbm, ⟨4, _⟩ => ⟨S2x2x3x3x3, .f32⟩
  | .hbm, ⟨5, _⟩ => ⟨S2x2x1x1x1, .f32⟩
  | .hbm, ⟨6, _⟩ => ⟨S54, .f32⟩
  | .hbm, ⟨7, _⟩ => ⟨S108, .f32⟩
  | .hbm, ⟨8, _⟩ => ⟨S108, .f32⟩
  | .hbm, ⟨9, _⟩ => ⟨S108, .f32⟩
  | .hbm, ⟨10, _⟩ => ⟨S4, .f32⟩
  | .hbm, ⟨11, _⟩ => ⟨S382, .f32⟩
  | .hbm, ⟨12, _⟩ => ⟨S1x96x96x96, .f32⟩
  | .hbm, ⟨13, _⟩ => ⟨S96x96x96, .f32⟩
  | .hbm, ⟨14, _⟩ => ⟨S96x96x96, .f32⟩
  | .hbm, ⟨15, _⟩ => ⟨S96x96x96, .f32⟩
  | .hbm, ⟨16, _⟩ => ⟨S1x96x96x96, .f32⟩
  | .hbm, ⟨17, _⟩ => ⟨S96x96x96, .f32⟩
  | .hbm, ⟨18, _⟩ => ⟨S96x96x96, .f32⟩
  | .hbm, ⟨19, _⟩ => ⟨S96x96x96, .f32⟩
  | .hbm, ⟨20, _⟩ => ⟨S1x96x96x96, .f32⟩
  | .hbm, ⟨21, _⟩ => ⟨S1x96x96x96, .f32⟩
  | .hbm, ⟨22, _⟩ => ⟨S2x96x96x96, .f32⟩
  | .hbm, ⟨23, _⟩ => ⟨S2x1x96x96x96, .f32⟩
  | .hbm, ⟨24, _⟩ => ⟨S1x96x96x96, .f32⟩
  | .hbm, ⟨25, _⟩ => ⟨S1x96x96x96, .f32⟩
  | .hbm, ⟨26, _⟩ => ⟨S2x96x96x96, .f32⟩
  | .hbm, ⟨27, _⟩ => ⟨S2x1x96x96x96, .f32⟩
  | .local _ .vmem, ⟨0, _⟩ => ⟨S96x96x96, .f32⟩
  | .local _ .vmem, ⟨1, _⟩ => ⟨S96x96x96, .f32⟩
  | .local _ .vmem, ⟨2, _⟩ => ⟨S96x96x96, .f32⟩
  | .local _ .vmem, ⟨3, _⟩ => ⟨S2x104x104x104, .f32⟩
  | .local _ .vmem, ⟨4, _⟩ => ⟨S2x104x104x104, .f32⟩
  | .local _ .vmem, ⟨5, _⟩ => ⟨S96x96x96, .f32⟩
  | .local _ .vmem, ⟨6, _⟩ => ⟨S96x96x96, .f32⟩
  | .local _ .vmem, ⟨7, _⟩ => ⟨S96x96x96, .f32⟩
  | .local _ .vmem, ⟨8, _⟩ => ⟨S2x104x104x104, .f32⟩
  | .local _ .vmem, ⟨9, _⟩ => ⟨S2x104x104x104, .f32⟩
  | .local _ .smem, ⟨0, _⟩ => ⟨S382, .f32⟩
  | .local _ .smem, ⟨1, _⟩ => ⟨S382, .f32⟩
  | _, _ => ⟨S2x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_scratch0 : Ref sig .tc := ⟨.vmem, 8, rfl⟩
abbrev cc1_scratch1 : Ref sig .tc := ⟨.vmem, 9, rfl⟩
abbrev cc0_stg1_0 : Ref sig .tc := ⟨.smem, 0, rfl⟩
abbrev cc1_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c104_i32 : BitVec 32 := 104#32
  let v0 : BitVec 32 := Scalar.addi c0_i32 c104_i32
  let c1_i32 : BitVec 32 := 1#32
  ⟨c0_i32, v0, c1_i32⟩
def k0_off1 (k0_t1 : Fin k0_t1_loop.trips) : Fin 4 → Nat :=
  let c0 : Index := 0#32
  let c0_i32 : BitVec 32 := 0#32
  let c1_i32 : BitVec 32 := 1#32
  let arg6 : BitVec 32 := Scf.iv c0_i32 c1_i32 k0_t1
  let v7 : Index := Scalar.indexCast arg6
  let c0_19 : Index := 0#32
  let c0_20 : Index := 0#32
  ![0, v7.toNat, 0, 0]
def k0_off2 (k0_t1 : Fin k0_t1_loop.trips) : Fin 4 → Nat :=
  let c1 : Index := 1#32
  let c0_i32 : BitVec 32 := 0#32
  let c1_i32 : BitVec 32 := 1#32
  let arg6 : BitVec 32 := Scf.iv c0_i32 c1_i32 k0_t1
  let v11 : Index := Scalar.indexCast arg6
  let c0_21 : Index := 0#32
  let c0_22 : Index := 0#32
  ![1, v11.toNat, 0, 0]
@[reducible] def k0_t2_loop : Scf.Loop 32 :=
  let c0_i32_1 : BitVec 32 := 0#32
  let c96_i32 : BitVec 32 := 96#32
  let v1 : BitVec 32 := Scalar.addi c0_i32_1 c96_i32
  let c1_i32_2 : BitVec 32 := 1#32
  ⟨c0_i32_1, v1, c1_i32_2⟩
def k0_off3 (k0_t2 : Fin k0_t2_loop.trips) : Fin 3 → Nat :=
  let c0_i32_1 : BitVec 32 := 0#32
  let c1_i32_2 : BitVec 32 := 1#32
  let arg6 : BitVec 32 := Scf.iv c0_i32_1 c1_i32_2 k0_t2
  let v6 : Index := Scalar.indexCast arg6
  let c0 : Index := 0#32
  let c0_19 : Index := 0#32
  ![v6.toNat, 0, 0]
def k0_off4 (k0_t2 : Fin k0_t2_loop.trips) : Fin 4 → Nat :=
  let c0_20 : Index := 0#32
  let c4_i32 : BitVec 32 := 4#32
  let c0_i32_1 : BitVec 32 := 0#32
  let c1_i32_2 : BitVec 32 := 1#32
  let arg6 : BitVec 32 := Scf.iv c0_i32_1 c1_i32_2 k0_t2
  let v9 : BitVec 32 := Scalar.addi c4_i32 arg6
  let v10 : Index := Scalar.indexCast v9
  let c0_21 : Index := 0#32
  let c0_22 : Index := 0#32
  ![0, v10.toNat, 0, 0]
@[reducible] def k0_t3_loop : Scf.Loop 32 :=
  let c0_i32_4 : BitVec 32 := 0#32
  let c12_i32 : BitVec 32 := 12#32
  let v2 : BitVec 32 := Scalar.addi c0_i32_4 c12_i32
  let c1_i32_5 : BitVec 32 := 1#32
  ⟨c0_i32_4, v2, c1_i32_5⟩
@[reducible] def k0_t4_loop : Scf.Loop 32 :=
  let c0_i32_19 : BitVec 32 := 0#32
  let c3_i32 : BitVec 32 := 3#32
  let v8 : BitVec 32 := Scalar.addi c0_i32_19 c3_i32
  let c1_i32_20 : BitVec 32 := 1#32
  ⟨c0_i32_19, v8, c1_i32_20⟩
def k0_off5 (k0_t3 : Fin k0_t3_loop.trips) (k0_t4 : Fin k0_t4_loop.trips) : Fin 4 → Nat :=
  let c0_35 : Index := 0#32
  let c4_i32_32 : BitVec 32 := 4#32
  let c0_i32_4 : BitVec 32 := 0#32
  let c1_i32_5 : BitVec 32 := 1#32
  let arg6 : BitVec 32 := Scf.iv c0_i32_4 c1_i32_5 k0_t3
  let c8_i32 : BitVec 32 := 8#32
  let v6 : BitVec 32 := Scalar.muli arg6 c8_i32
  let v35 : BitVec 32 := Scalar.addi c4_i32_32 v6
  let c1_i32_34 : BitVec 32 := 1#32
  let c0_i32_19 : BitVec 32 := 0#32
  let c1_i32_20 : BitVec 32 := 1#32
  let arg7 : BitVec 32 := Scf.iv c0_i32_19 c1_i32_20 k0_t4
  let c1_i32_33 : BitVec 32 := 1#32
  let v36 : BitVec 32 := Scalar.subi arg7 c1_i32_33
  let v37 : BitVec 32 := Scalar.muli c1_i32_34 v36
  let v38 : BitVec 32 := Scalar.addi v35 v37
  let v39 : Index := Scalar.indexCast v38
  let c0_36 : Index := 0#32
  let c0_37 : Index := 0#32
  ![0, v39.toNat, 0, 0]
def k0_off6 (k0_t4 : Fin k0_t4_loop.trips) (c0_i32_42 : BitVec 32) (c0_i32_40 : BitVec 32) (c0_i32_41 : BitVec 32) : Fin 1 → Nat :=
  let c0_i32_19 : BitVec 32 := 0#32
  let c1_i32_20 : BitVec 32 := 1#32
  let arg7 : BitVec 32 := Scf.iv c0_i32_19 c1_i32_20 k0_t4
  let c9_i32 : BitVec 32 := 9#32
  let v44 : BitVec 32 := Scalar.muli arg7 c9_i32
  let v45 : BitVec 32 := Scalar.addi v44 c0_i32_40
  let v46 : BitVec 32 := Scalar.addi v45 c0_i32_41
  let v47 : BitVec 32 := Scalar.addi c0_i32_42 v46
  let v48 : Index := Scalar.indexCast v47
  ![v48.toNat]
def k0_off7 (k0_t3 : Fin k0_t3_loop.trips) : Fin 3 → Nat :=
  let c0_i32_4 : BitVec 32 := 0#32
  let c1_i32_5 : BitVec 32 := 1#32
  let arg6 : BitVec 32 := Scf.iv c0_i32_4 c1_i32_5 k0_t3
  let c8_i32 : BitVec 32 := 8#32
  let v6 : BitVec 32 := Scalar.muli arg6 c8_i32
  let v12 : Index := Scalar.indexCast v6
  let c0 : Index := 0#32
  let c0_22 : Index := 0#32
  ![v12.toNat, 0, 0]
def k0_off8 (k0_t3 : Fin k0_t3_loop.trips) : Fin 4 → Nat :=
  let c0_25 : Index := 0#32
  let c4_i32 : BitVec 32 := 4#32
  let c0_i32_4 : BitVec 32 := 0#32
  let c1_i32_5 : BitVec 32 := 1#32
  let arg6 : BitVec 32 := Scf.iv c0_i32_4 c1_i32_5 k0_t3
  let c8_i32 : BitVec 32 := 8#32
  let v6 : BitVec 32 := Scalar.muli arg6 c8_i32
  let v22 : BitVec 32 := Scalar.addi c4_i32 v6
  let v23 : Index := Scalar.indexCast v22
  let c0_26 : Index := 0#32
  let c0_27 : Index := 0#32
  ![0, v23.toNat, 0, 0]
def k0_off9 (k0_t3 : Fin k0_t3_loop.trips) : Fin 4 → Nat :=
  let c1 : Index := 1#32
  let c4_i32_29 : BitVec 32 := 4#32
  let c0_i32_4 : BitVec 32 := 0#32
  let c1_i32_5 : BitVec 32 := 1#32
  let arg6 : BitVec 32 := Scf.iv c0_i32_4 c1_i32_5 k0_t3
  let c8_i32 : BitVec 32 := 8#32
  let v6 : BitVec 32 := Scalar.muli arg6 c8_i32
  let v30 : BitVec 32 := Scalar.addi c4_i32_29 v6
  let v31 : Index := Scalar.indexCast v30
  let c0_30 : Index := 0#32
  let c0_31 : Index := 0#32
  ![1, v31.toNat, 0, 0]
@[reducible] def k0_t5_loop : Scf.Loop 32 :=
  let c0_i32_7 : BitVec 32 := 0#32
  let c12_i32_8 : BitVec 32 := 12#32
  let v3 : BitVec 32 := Scalar.addi c0_i32_7 c12_i32_8
  let c1_i32_9 : BitVec 32 := 1#32
  ⟨c0_i32_7, v3, c1_i32_9⟩
@[reducible] def k0_t6_loop : Scf.Loop 32 :=
  let c0_i32_19 : BitVec 32 := 0#32
  let c3_i32 : BitVec 32 := 3#32
  let v8 : BitVec 32 := Scalar.addi c0_i32_19 c3_i32
  let c1_i32_20 : BitVec 32 := 1#32
  ⟨c0_i32_19, v8, c1_i32_20⟩
def k0_off10 (k0_t5 : Fin k0_t5_loop.trips) (k0_t6 : Fin k0_t6_loop.trips) : Fin 4 → Nat :=
  let c0_34 : Index := 0#32
  let c4_i32_32 : BitVec 32 := 4#32
  let c0_i32_7 : BitVec 32 := 0#32
  let c1_i32_9 : BitVec 32 := 1#32
  let arg6 : BitVec 32 := Scf.iv c0_i32_7 c1_i32_9 k0_t5
  let c8_i32 : BitVec 32 := 8#32
  let v6 : BitVec 32 := Scalar.muli arg6 c8_i32
  let v35 : BitVec 32 := Scalar.addi c4_i32_32 v6
  let c2_i32 : BitVec 32 := 2#32
  let c0_i32_19 : BitVec 32 := 0#32
  let c1_i32_20 : BitVec 32 := 1#32
  let arg7 : BitVec 32 := Scf.iv c0_i32_19 c1_i32_20 k0_t6
  let c1_i32_33 : BitVec 32 := 1#32
  let v36 : BitVec 32 := Scalar.subi arg7 c1_i32_33
  let v37 : BitVec 32 := Scalar.muli c2_i32 v36
  let v38 : BitVec 32 := Scalar.addi v35 v37
  let v39 : Index := Scalar.indexCast v38
  let c0_35 : Index := 0#32
  let c0_36 : Index := 0#32
  ![0, v39.toNat, 0, 0]
def k0_off11 (k0_t6 : Fin k0_t6_loop.trips) (c54_i32 : BitVec 32) (c0_i32_39 : BitVec 32) (c0_i32_40 : BitVec 32) : Fin 1 → Nat :=
  let c0_i32_19 : BitVec 32 := 0#32
  let c1_i32_20 : BitVec 32 := 1#32
  let arg7 : BitVec 32 := Scf.iv c0_i32_19 c1_i32_20 k0_t6
  let c9_i32 : BitVec 32 := 9#32
  let v44 : BitVec 32 := Scalar.muli arg7 c9_i32
  let v45 : BitVec 32 := Scalar.addi v44 c0_i32_39
  let v46 : BitVec 32 := Scalar.addi v45 c0_i32_40
  let v47 : BitVec 32 := Scalar.addi c54_i32 v46
  let v48 : Index := Scalar.indexCast v47
  ![v48.toNat]
def k0_off12 (k0_t5 : Fin k0_t5_loop.trips) (k0_t6 : Fin k0_t6_loop.trips) : Fin 4 → Nat :=
  let c1_85 : Index := 1#32
  let c4_i32_32 : BitVec 32 := 4#32
  let c0_i32_7 : BitVec 32 := 0#32
  let c1_i32_9 : BitVec 32 := 1#32
  let arg6 : BitVec 32 := Scf.iv c0_i32_7 c1_i32_9 k0_t5
  let c8_i32 : BitVec 32 := 8#32
  let v6 : BitVec 32 := Scalar.muli arg6 c8_i32
  let v35 : BitVec 32 := Scalar.addi c4_i32_32 v6
  let c2_i32 : BitVec 32 := 2#32
  let c0_i32_19 : BitVec 32 := 0#32
  let c1_i32_20 : BitVec 32 := 1#32
  let arg7 : BitVec 32 := Scf.iv c0_i32_19 c1_i32_20 k0_t6
  let c1_i32_33 : BitVec 32 := 1#32
  let v36 : BitVec 32 := Scalar.subi arg7 c1_i32_33
  let v37 : BitVec 32 := Scalar.muli c2_i32 v36
  let v38 : BitVec 32 := Scalar.addi v35 v37
  let v185 : Index := Scalar.indexCast v38
  let c0_86 : Index := 0#32
  let c0_87 : Index := 0#32
  ![1, v185.toNat, 0, 0]
def k0_off13 (k0_t5 : Fin k0_t5_loop.trips) : Fin 3 → Nat :=
  let c0_i32_7 : BitVec 32 := 0#32
  let c1_i32_9 : BitVec 32 := 1#32
  let arg6 : BitVec 32 := Scf.iv c0_i32_7 c1_i32_9 k0_t5
  let c8_i32 : BitVec 32 := 8#32
  let v6 : BitVec 32 := Scalar.muli arg6 c8_i32
  let v12 : Index := Scalar.indexCast v6
  let c0 : Index := 0#32
  let c0_22 : Index := 0#32
  ![v12.toNat, 0, 0]
def k0_off14 (k0_t5 : Fin k0_t5_loop.trips) : Fin 4 → Nat :=
  let c0_25 : Index := 0#32
  let c4_i32 : BitVec 32 := 4#32
  let c0_i32_7 : BitVec 32 := 0#32
  let c1_i32_9 : BitVec 32 := 1#32
  let arg6 : BitVec 32 := Scf.iv c0_i32_7 c1_i32_9 k0_t5
  let c8_i32 : BitVec 32 := 8#32
  let v6 : BitVec 32 := Scalar.muli arg6 c8_i32
  let v22 : BitVec 32 := Scalar.addi c4_i32 v6
  let v23 : Index := Scalar.indexCast v22
  let c0_26 : Index := 0#32
  let c0_27 : Index := 0#32
  ![0, v23.toNat, 0, 0]
def k0_off15 (k0_t5 : Fin k0_t5_loop.trips) : Fin 4 → Nat :=
  let c1 : Index := 1#32
  let c4_i32_29 : BitVec 32 := 4#32
  let c0_i32_7 : BitVec 32 := 0#32
  let c1_i32_9 : BitVec 32 := 1#32
  let arg6 : BitVec 32 := Scf.iv c0_i32_7 c1_i32_9 k0_t5
  let c8_i32 : BitVec 32 := 8#32
  let v6 : BitVec 32 := Scalar.muli arg6 c8_i32
  let v30 : BitVec 32 := Scalar.addi c4_i32_29 v6
  let v31 : Index := Scalar.indexCast v30
  let c0_30 : Index := 0#32
  let c0_31 : Index := 0#32
  ![1, v31.toNat, 0, 0]
@[reducible] def k0_t7_loop : Scf.Loop 32 :=
  let c0_i32_11 : BitVec 32 := 0#32
  let c12_i32_12 : BitVec 32 := 12#32
  let v4 : BitVec 32 := Scalar.addi c0_i32_11 c12_i32_12
  let c1_i32_13 : BitVec 32 := 1#32
  ⟨c0_i32_11, v4, c1_i32_13⟩
@[reducible] def k0_t8_loop : Scf.Loop 32 :=
  let c0_i32_19 : BitVec 32 := 0#32
  let c3_i32 : BitVec 32 := 3#32
  let v8 : BitVec 32 := Scalar.addi c0_i32_19 c3_i32
  let c1_i32_20 : BitVec 32 := 1#32
  ⟨c0_i32_19, v8, c1_i32_20⟩
def k0_off16 (k0_t7 : Fin k0_t7_loop.trips) (k0_t8 : Fin k0_t8_loop.trips) : Fin 4 → Nat :=
  let c0_35 : Index := 0#32
  let c4_i32_32 : BitVec 32 := 4#32
  let c0_i32_11 : BitVec 32 := 0#32
  let c1_i32_13 : BitVec 32 := 1#32
  let arg6 : BitVec 32 := Scf.iv c0_i32_11 c1_i32_13 k0_t7
  let c8_i32 : BitVec 32 := 8#32
  let v6 : BitVec 32 := Scalar.muli arg6 c8_i32
  let v35 : BitVec 32 := Scalar.addi c4_i32_32 v6
  let c4_i32_34 : BitVec 32 := 4#32
  let c0_i32_19 : BitVec 32 := 0#32
  let c1_i32_20 : BitVec 32 := 1#32
  let arg7 : BitVec 32 := Scf.iv c0_i32_19 c1_i32_20 k0_t8
  let c1_i32_33 : BitVec 32 := 1#32
  let v36 : BitVec 32 := Scalar.subi arg7 c1_i32_33
  let v37 : BitVec 32 := Scalar.muli c4_i32_34 v36
  let v38 : BitVec 32 := Scalar.addi v35 v37
  let v39 : Index := Scalar.indexCast v38
  let c0_36 : Index := 0#32
  let c0_37 : Index := 0#32
  ![0, v39.toNat, 0, 0]
def k0_off17 (k0_t8 : Fin k0_t8_loop.trips) (c162_i32 : BitVec 32) (c0_i32_40 : BitVec 32) (c0_i32_41 : BitVec 32) : Fin 1 → Nat :=
  let c0_i32_19 : BitVec 32 := 0#32
  let c1_i32_20 : BitVec 32 := 1#32
  let arg7 : BitVec 32 := Scf.iv c0_i32_19 c1_i32_20 k0_t8
  let c9_i32 : BitVec 32 := 9#32
  let v44 : BitVec 32 := Scalar.muli arg7 c9_i32
  let v45 : BitVec 32 := Scalar.addi v44 c0_i32_40
  let v46 : BitVec 32 := Scalar.addi v45 c0_i32_41
  let v47 : BitVec 32 := Scalar.addi c162_i32 v46
  let v48 : Index := Scalar.indexCast v47
  ![v48.toNat]
def k0_off18 (k0_t7 : Fin k0_t7_loop.trips) (k0_t8 : Fin k0_t8_loop.trips) : Fin 4 → Nat :=
  let c1_85 : Index := 1#32
  let c4_i32_32 : BitVec 32 := 4#32
  let c0_i32_11 : BitVec 32 := 0#32
  let c1_i32_13 : BitVec 32 := 1#32
  let arg6 : BitVec 32 := Scf.iv c0_i32_11 c1_i32_13 k0_t7
  let c8_i32 : BitVec 32 := 8#32
  let v6 : BitVec 32 := Scalar.muli arg6 c8_i32
  let v35 : BitVec 32 := Scalar.addi c4_i32_32 v6
  let c4_i32_34 : BitVec 32 := 4#32
  let c0_i32_19 : BitVec 32 := 0#32
  let c1_i32_20 : BitVec 32 := 1#32
  let arg7 : BitVec 32 := Scf.iv c0_i32_19 c1_i32_20 k0_t8
  let c1_i32_33 : BitVec 32 := 1#32
  let v36 : BitVec 32 := Scalar.subi arg7 c1_i32_33
  let v37 : BitVec 32 := Scalar.muli c4_i32_34 v36
  let v38 : BitVec 32 := Scalar.addi v35 v37
  let v185 : Index := Scalar.indexCast v38
  let c0_86 : Index := 0#32
  let c0_87 : Index := 0#32
  ![1, v185.toNat, 0, 0]
def k0_off19 (k0_t7 : Fin k0_t7_loop.trips) : Fin 3 → Nat :=
  let c0_i32_11 : BitVec 32 := 0#32
  let c1_i32_13 : BitVec 32 := 1#32
  let arg6 : BitVec 32 := Scf.iv c0_i32_11 c1_i32_13 k0_t7
  let c8_i32 : BitVec 32 := 8#32
  let v6 : BitVec 32 := Scalar.muli arg6 c8_i32
  let v12 : Index := Scalar.indexCast v6
  let c0 : Index := 0#32
  let c0_22 : Index := 0#32
  ![v12.toNat, 0, 0]
def k0_off20 (k0_t7 : Fin k0_t7_loop.trips) : Fin 4 → Nat :=
  let c0_25 : Index := 0#32
  let c4_i32 : BitVec 32 := 4#32
  let c0_i32_11 : BitVec 32 := 0#32
  let c1_i32_13 : BitVec 32 := 1#32
  let arg6 : BitVec 32 := Scf.iv c0_i32_11 c1_i32_13 k0_t7
  let c8_i32 : BitVec 32 := 8#32
  let v6 : BitVec 32 := Scalar.muli arg6 c8_i32
  let v22 : BitVec 32 := Scalar.addi c4_i32 v6
  let v23 : Index := Scalar.indexCast v22
  let c0_26 : Index := 0#32
  let c0_27 : Index := 0#32
  ![0, v23.toNat, 0, 0]
def k0_off21 (k0_t7 : Fin k0_t7_loop.trips) : Fin 4 → Nat :=
  let c1 : Index := 1#32
  let c4_i32_29 : BitVec 32 := 4#32
  let c0_i32_11 : BitVec 32 := 0#32
  let c1_i32_13 : BitVec 32 := 1#32
  let arg6 : BitVec 32 := Scf.iv c0_i32_11 c1_i32_13 k0_t7
  let c8_i32 : BitVec 32 := 8#32
  let v6 : BitVec 32 := Scalar.muli arg6 c8_i32
  let v30 : BitVec 32 := Scalar.addi c4_i32_29 v6
  let v31 : Index := Scalar.indexCast v30
  let c0_30 : Index := 0#32
  let c0_31 : Index := 0#32
  ![1, v31.toNat, 0, 0]
@[reducible] def k0_t9_loop : Scf.Loop 32 :=
  let c0_i32_15 : BitVec 32 := 0#32
  let c12_i32_16 : BitVec 32 := 12#32
  let v5 : BitVec 32 := Scalar.addi c0_i32_15 c12_i32_16
  let c1_i32_17 : BitVec 32 := 1#32
  ⟨c0_i32_15, v5, c1_i32_17⟩
@[reducible] def k0_t10_loop : Scf.Loop 32 :=
  let c0_i32_19 : BitVec 32 := 0#32
  let c3_i32 : BitVec 32 := 3#32
  let v8 : BitVec 32 := Scalar.addi c0_i32_19 c3_i32
  let c1_i32_20 : BitVec 32 := 1#32
  ⟨c0_i32_19, v8, c1_i32_20⟩
def k0_off22 (k0_t9 : Fin k0_t9_loop.trips) (k0_t10 : Fin k0_t10_loop.trips) : Fin 4 → Nat :=
  let c0_35 : Index := 0#32
  let c4_i32 : BitVec 32 := 4#32
  let c0_i32_15 : BitVec 32 := 0#32
  let c1_i32_17 : BitVec 32 := 1#32
  let arg6 : BitVec 32 := Scf.iv c0_i32_15 c1_i32_17 k0_t9
  let c8_i32 : BitVec 32 := 8#32
  let v6 : BitVec 32 := Scalar.muli arg6 c8_i32
  let v55 : BitVec 32 := Scalar.addi c4_i32 v6
  let c2_i32 : BitVec 32 := 2#32
  let c0_i32_19 : BitVec 32 := 0#32
  let c1_i32_20 : BitVec 32 := 1#32
  let arg7 : BitVec 32 := Scf.iv c0_i32_19 c1_i32_20 k0_t10
  let c1_i32_34 : BitVec 32 := 1#32
  let v56 : BitVec 32 := Scalar.subi arg7 c1_i32_34
  let v57 : BitVec 32 := Scalar.muli c2_i32 v56
  let v58 : BitVec 32 := Scalar.addi v55 v57
  let v59 : Index := Scalar.indexCast v58
  let c0_36 : Index := 0#32
  let c0_37 : Index := 0#32
  ![0, v59.toNat, 0, 0]
def k0_off23 (k0_t10 : Fin k0_t10_loop.trips) (c270_i32 : BitVec 32) (c0_i32_40 : BitVec 32) (c0_i32_41 : BitVec 32) : Fin 1 → Nat :=
  let c0_i32_19 : BitVec 32 := 0#32
  let c1_i32_20 : BitVec 32 := 1#32
  let arg7 : BitVec 32 := Scf.iv c0_i32_19 c1_i32_20 k0_t10
  let c9_i32 : BitVec 32 := 9#32
  let v64 : BitVec 32 := Scalar.muli arg7 c9_i32
  let v65 : BitVec 32 := Scalar.addi v64 c0_i32_40
  let v66 : BitVec 32 := Scalar.addi v65 c0_i32_41
  let v67 : BitVec 32 := Scalar.addi c270_i32 v66
  let v68 : Index := Scalar.indexCast v67
  ![v68.toNat]
def k0_off24 (k0_t9 : Fin k0_t9_loop.trips) (k0_t10 : Fin k0_t10_loop.trips) : Fin 4 → Nat :=
  let c1 : Index := 1#32
  let c4_i32 : BitVec 32 := 4#32
  let c0_i32_15 : BitVec 32 := 0#32
  let c1_i32_17 : BitVec 32 := 1#32
  let arg6 : BitVec 32 := Scf.iv c0_i32_15 c1_i32_17 k0_t9
  let c8_i32 : BitVec 32 := 8#32
  let v6 : BitVec 32 := Scalar.muli arg6 c8_i32
  let v55 : BitVec 32 := Scalar.addi c4_i32 v6
  let c2_i32 : BitVec 32 := 2#32
  let c0_i32_19 : BitVec 32 := 0#32
  let c1_i32_20 : BitVec 32 := 1#32
  let arg7 : BitVec 32 := Scf.iv c0_i32_19 c1_i32_20 k0_t10
  let c1_i32_34 : BitVec 32 := 1#32
  let v56 : BitVec 32 := Scalar.subi arg7 c1_i32_34
  let v57 : BitVec 32 := Scalar.muli c2_i32 v56
  let v58 : BitVec 32 := Scalar.addi v55 v57
  let v205 : Index := Scalar.indexCast v58
  let c0_86 : Index := 0#32
  let c0_87 : Index := 0#32
  ![1, v205.toNat, 0, 0]
def k0_off25 (k0_t9 : Fin k0_t9_loop.trips) : Fin 3 → Nat :=
  let c0_i32_15 : BitVec 32 := 0#32
  let c1_i32_17 : BitVec 32 := 1#32
  let arg6 : BitVec 32 := Scf.iv c0_i32_15 c1_i32_17 k0_t9
  let c8_i32 : BitVec 32 := 8#32
  let v6 : BitVec 32 := Scalar.muli arg6 c8_i32
  let v12 : Index := Scalar.indexCast v6
  let c0 : Index := 0#32
  let c0_22 : Index := 0#32
  ![v12.toNat, 0, 0]
abbrev stage0_0 : Fin 1 → Memref sig .tc .vmem S96x96x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S382 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c104_i32 : BitVec 32 := 104#32
  let v0 : BitVec 32 := Scalar.addi c0_i32 c104_i32
  let c1_i32 : BitVec 32 := 1#32
  ⟨c0_i32, v0, c1_i32⟩
def k1_off1 (k1_t1 : Fin k1_t1_loop.trips) : Fin 4 → Nat :=
  let c0 : Index := 0#32
  let c0_i32 : BitVec 32 := 0#32
  let c1_i32 : BitVec 32 := 1#32
  let arg6 : BitVec 32 := Scf.iv c0_i32 c1_i32 k1_t1
  let v7 : Index := Scalar.indexCast arg6
  let c0_19 : Index := 0#32
  let c0_20 : Index := 0#32
  ![0, v7.toNat, 0, 0]
def k1_off2 (k1_t1 : Fin k1_t1_loop.trips) : Fin 4 → Nat :=
  let c1 : Index := 1#32
  let c0_i32 : BitVec 32 := 0#32
  let c1_i32 : BitVec 32 := 1#32
  let arg6 : BitVec 32 := Scf.iv c0_i32 c1_i32 k1_t1
  let v11 : Index := Scalar.indexCast arg6
  let c0_21 : Index := 0#32
  let c0_22 : Index := 0#32
  ![1, v11.toNat, 0, 0]
@[reducible] def k1_t2_loop : Scf.Loop 32 :=
  let c0_i32_1 : BitVec 32 := 0#32
  let c96_i32 : BitVec 32 := 96#32
  let v1 : BitVec 32 := Scalar.addi c0_i32_1 c96_i32
  let c1_i32_2 : BitVec 32 := 1#32
  ⟨c0_i32_1, v1, c1_i32_2⟩
def k1_off3 (k1_t2 : Fin k1_t2_loop.trips) : Fin 3 → Nat :=
  let c0_i32_1 : BitVec 32 := 0#32
  let c1_i32_2 : BitVec 32 := 1#32
  let arg6 : BitVec 32 := Scf.iv c0_i32_1 c1_i32_2 k1_t2
  let v6 : Index := Scalar.indexCast arg6
  let c0 : Index := 0#32
  let c0_19 : Index := 0#32
  ![v6.toNat, 0, 0]
def k1_off4 (k1_t2 : Fin k1_t2_loop.trips) : Fin 4 → Nat :=
  let c0_20 : Index := 0#32
  let c4_i32 : BitVec 32 := 4#32
  let c0_i32_1 : BitVec 32 := 0#32
  let c1_i32_2 : BitVec 32 := 1#32
  let arg6 : BitVec 32 := Scf.iv c0_i32_1 c1_i32_2 k1_t2
  let v9 : BitVec 32 := Scalar.addi c4_i32 arg6
  let v10 : Index := Scalar.indexCast v9
  let c0_21 : Index := 0#32
  let c0_22 : Index := 0#32
  ![0, v10.toNat, 0, 0]
@[reducible] def k1_t3_loop : Scf.Loop 32 :=
  let c0_i32_4 : BitVec 32 := 0#32
  let c12_i32 : BitVec 32 := 12#32
  let v2 : BitVec 32 := Scalar.addi c0_i32_4 c12_i32
  let c1_i32_5 : BitVec 32 := 1#32
  ⟨c0_i32_4, v2, c1_i32_5⟩
@[reducible] def k1_t4_loop : Scf.Loop 32 :=
  let c0_i32_19 : BitVec 32 := 0#32
  let c3_i32 : BitVec 32 := 3#32
  let v8 : BitVec 32 := Scalar.addi c0_i32_19 c3_i32
  let c1_i32_20 : BitVec 32 := 1#32
  ⟨c0_i32_19, v8, c1_i32_20⟩
def k1_off5 (k1_t3 : Fin k1_t3_loop.trips) (k1_t4 : Fin k1_t4_loop.trips) : Fin 4 → Nat :=
  let c0_35 : Index := 0#32
  let c4_i32_32 : BitVec 32 := 4#32
  let c0_i32_4 : BitVec 32 := 0#32
  let c1_i32_5 : BitVec 32 := 1#32
  let arg6 : BitVec 32 := Scf.iv c0_i32_4 c1_i32_5 k1_t3
  let c8_i32 : BitVec 32 := 8#32
  let v6 : BitVec 32 := Scalar.muli arg6 c8_i32
  let v35 : BitVec 32 := Scalar.addi c4_i32_32 v6
  let c1_i32_34 : BitVec 32 := 1#32
  let c0_i32_19 : BitVec 32 := 0#32
  let c1_i32_20 : BitVec 32 := 1#32
  let arg7 : BitVec 32 := Scf.iv c0_i32_19 c1_i32_20 k1_t4
  let c1_i32_33 : BitVec 32 := 1#32
  let v36 : BitVec 32 := Scalar.subi arg7 c1_i32_33
  let v37 : BitVec 32 := Scalar.muli c1_i32_34 v36
  let v38 : BitVec 32 := Scalar.addi v35 v37
  let v39 : Index := Scalar.indexCast v38
  let c0_36 : Index := 0#32
  let c0_37 : Index := 0#32
  ![0, v39.toNat, 0, 0]
def k1_off6 (k1_t4 : Fin k1_t4_loop.trips) (c0_i32_42 : BitVec 32) (c0_i32_40 : BitVec 32) (c0_i32_41 : BitVec 32) : Fin 1 → Nat :=
  let c0_i32_19 : BitVec 32 := 0#32
  let c1_i32_20 : BitVec 32 := 1#32
  let arg7 : BitVec 32 := Scf.iv c0_i32_19 c1_i32_20 k1_t4
  let c9_i32 : BitVec 32 := 9#32
  let v44 : BitVec 32 := Scalar.muli arg7 c9_i32
  let v45 : BitVec 32 := Scalar.addi v44 c0_i32_40
  let v46 : BitVec 32 := Scalar.addi v45 c0_i32_41
  let v47 : BitVec 32 := Scalar.addi c0_i32_42 v46
  let v48 : Index := Scalar.indexCast v47
  ![v48.toNat]
def k1_off7 (k1_t3 : Fin k1_t3_loop.trips) : Fin 3 → Nat :=
  let c0_i32_4 : BitVec 32 := 0#32
  let c1_i32_5 : BitVec 32 := 1#32
  let arg6 : BitVec 32 := Scf.iv c0_i32_4 c1_i32_5 k1_t3
  let c8_i32 : BitVec 32 := 8#32
  let v6 : BitVec 32 := Scalar.muli arg6 c8_i32
  let v12 : Index := Scalar.indexCast v6
  let c0 : Index := 0#32
  let c0_22 : Index := 0#32
  ![v12.toNat, 0, 0]
def k1_off8 (k1_t3 : Fin k1_t3_loop.trips) : Fin 4 → Nat :=
  let c0_25 : Index := 0#32
  let c4_i32 : BitVec 32 := 4#32
  let c0_i32_4 : BitVec 32 := 0#32
  let c1_i32_5 : BitVec 32 := 1#32
  let arg6 : BitVec 32 := Scf.iv c0_i32_4 c1_i32_5 k1_t3
  let c8_i32 : BitVec 32 := 8#32
  let v6 : BitVec 32 := Scalar.muli arg6 c8_i32
  let v22 : BitVec 32 := Scalar.addi c4_i32 v6
  let v23 : Index := Scalar.indexCast v22
  let c0_26 : Index := 0#32
  let c0_27 : Index := 0#32
  ![0, v23.toNat, 0, 0]
def k1_off9 (k1_t3 : Fin k1_t3_loop.trips) : Fin 4 → Nat :=
  let c1 : Index := 1#32
  let c4_i32_29 : BitVec 32 := 4#32
  let c0_i32_4 : BitVec 32 := 0#32
  let c1_i32_5 : BitVec 32 := 1#32
  let arg6 : BitVec 32 := Scf.iv c0_i32_4 c1_i32_5 k1_t3
  let c8_i32 : BitVec 32 := 8#32
  let v6 : BitVec 32 := Scalar.muli arg6 c8_i32
  let v30 : BitVec 32 := Scalar.addi c4_i32_29 v6
  let v31 : Index := Scalar.indexCast v30
  let c0_30 : Index := 0#32
  let c0_31 : Index := 0#32
  ![1, v31.toNat, 0, 0]
@[reducible] def k1_t5_loop : Scf.Loop 32 :=
  let c0_i32_7 : BitVec 32 := 0#32
  let c12_i32_8 : BitVec 32 := 12#32
  let v3 : BitVec 32 := Scalar.addi c0_i32_7 c12_i32_8
  let c1_i32_9 : BitVec 32 := 1#32
  ⟨c0_i32_7, v3, c1_i32_9⟩
@[reducible] def k1_t6_loop : Scf.Loop 32 :=
  let c0_i32_19 : BitVec 32 := 0#32
  let c3_i32 : BitVec 32 := 3#32
  let v8 : BitVec 32 := Scalar.addi c0_i32_19 c3_i32
  let c1_i32_20 : BitVec 32 := 1#32
  ⟨c0_i32_19, v8, c1_i32_20⟩
def k1_off10 (k1_t5 : Fin k1_t5_loop.trips) (k1_t6 : Fin k1_t6_loop.trips) : Fin 4 → Nat :=
  let c0_34 : Index := 0#32
  let c4_i32_32 : BitVec 32 := 4#32
  let c0_i32_7 : BitVec 32 := 0#32
  let c1_i32_9 : BitVec 32 := 1#32
  let arg6 : BitVec 32 := Scf.iv c0_i32_7 c1_i32_9 k1_t5
  let c8_i32 : BitVec 32 := 8#32
  let v6 : BitVec 32 := Scalar.muli arg6 c8_i32
  let v35 : BitVec 32 := Scalar.addi c4_i32_32 v6
  let c2_i32 : BitVec 32 := 2#32
  let c0_i32_19 : BitVec 32 := 0#32
  let c1_i32_20 : BitVec 32 := 1#32
  let arg7 : BitVec 32 := Scf.iv c0_i32_19 c1_i32_20 k1_t6
  let c1_i32_33 : BitVec 32 := 1#32
  let v36 : BitVec 32 := Scalar.subi arg7 c1_i32_33
  let v37 : BitVec 32 := Scalar.muli c2_i32 v36
  let v38 : BitVec 32 := Scalar.addi v35 v37
  let v39 : Index := Scalar.indexCast v38
  let c0_35 : Index := 0#32
  let c0_36 : Index := 0#32
  ![0, v39.toNat, 0, 0]
def k1_off11 (k1_t6 : Fin k1_t6_loop.trips) (c54_i32 : BitVec 32) (c0_i32_39 : BitVec 32) (c0_i32_40 : BitVec 32) : Fin 1 → Nat :=
  let c0_i32_19 : BitVec 32 := 0#32
  let c1_i32_20 : BitVec 32 := 1#32
  let arg7 : BitVec 32 := Scf.iv c0_i32_19 c1_i32_20 k1_t6
  let c9_i32 : BitVec 32 := 9#32
  let v44 : BitVec 32 := Scalar.muli arg7 c9_i32
  let v45 : BitVec 32 := Scalar.addi v44 c0_i32_39
  let v46 : BitVec 32 := Scalar.addi v45 c0_i32_40
  let v47 : BitVec 32 := Scalar.addi c54_i32 v46
  let v48 : Index := Scalar.indexCast v47
  ![v48.toNat]
def k1_off12 (k1_t5 : Fin k1_t5_loop.trips) (k1_t6 : Fin k1_t6_loop.trips) : Fin 4 → Nat :=
  let c1_85 : Index := 1#32
  let c4_i32_32 : BitVec 32 := 4#32
  let c0_i32_7 : BitVec 32 := 0#32
  let c1_i32_9 : BitVec 32 := 1#32
  let arg6 : BitVec 32 := Scf.iv c0_i32_7 c1_i32_9 k1_t5
  let c8_i32 : BitVec 32 := 8#32
  let v6 : BitVec 32 := Scalar.muli arg6 c8_i32
  let v35 : BitVec 32 := Scalar.addi c4_i32_32 v6
  let c2_i32 : BitVec 32 := 2#32
  let c0_i32_19 : BitVec 32 := 0#32
  let c1_i32_20 : BitVec 32 := 1#32
  let arg7 : BitVec 32 := Scf.iv c0_i32_19 c1_i32_20 k1_t6
  let c1_i32_33 : BitVec 32 := 1#32
  let v36 : BitVec 32 := Scalar.subi arg7 c1_i32_33
  let v37 : BitVec 32 := Scalar.muli c2_i32 v36
  let v38 : BitVec 32 := Scalar.addi v35 v37
  let v185 : Index := Scalar.indexCast v38
  let c0_86 : Index := 0#32
  let c0_87 : Index := 0#32
  ![1, v185.toNat, 0, 0]
def k1_off13 (k1_t5 : Fin k1_t5_loop.trips) : Fin 3 → Nat :=
  let c0_i32_7 : BitVec 32 := 0#32
  let c1_i32_9 : BitVec 32 := 1#32
  let arg6 : BitVec 32 := Scf.iv c0_i32_7 c1_i32_9 k1_t5
  let c8_i32 : BitVec 32 := 8#32
  let v6 : BitVec 32 := Scalar.muli arg6 c8_i32
  let v12 : Index := Scalar.indexCast v6
  let c0 : Index := 0#32
  let c0_22 : Index := 0#32
  ![v12.toNat, 0, 0]
def k1_off14 (k1_t5 : Fin k1_t5_loop.trips) : Fin 4 → Nat :=
  let c0_25 : Index := 0#32
  let c4_i32 : BitVec 32 := 4#32
  let c0_i32_7 : BitVec 32 := 0#32
  let c1_i32_9 : BitVec 32 := 1#32
  let arg6 : BitVec 32 := Scf.iv c0_i32_7 c1_i32_9 k1_t5
  let c8_i32 : BitVec 32 := 8#32
  let v6 : BitVec 32 := Scalar.muli arg6 c8_i32
  let v22 : BitVec 32 := Scalar.addi c4_i32 v6
  let v23 : Index := Scalar.indexCast v22
  let c0_26 : Index := 0#32
  let c0_27 : Index := 0#32
  ![0, v23.toNat, 0, 0]
def k1_off15 (k1_t5 : Fin k1_t5_loop.trips) : Fin 4 → Nat :=
  let c1 : Index := 1#32
  let c4_i32_29 : BitVec 32 := 4#32
  let c0_i32_7 : BitVec 32 := 0#32
  let c1_i32_9 : BitVec 32 := 1#32
  let arg6 : BitVec 32 := Scf.iv c0_i32_7 c1_i32_9 k1_t5
  let c8_i32 : BitVec 32 := 8#32
  let v6 : BitVec 32 := Scalar.muli arg6 c8_i32
  let v30 : BitVec 32 := Scalar.addi c4_i32_29 v6
  let v31 : Index := Scalar.indexCast v30
  let c0_30 : Index := 0#32
  let c0_31 : Index := 0#32
  ![1, v31.toNat, 0, 0]
@[reducible] def k1_t7_loop : Scf.Loop 32 :=
  let c0_i32_11 : BitVec 32 := 0#32
  let c12_i32_12 : BitVec 32 := 12#32
  let v4 : BitVec 32 := Scalar.addi c0_i32_11 c12_i32_12
  let c1_i32_13 : BitVec 32 := 1#32
  ⟨c0_i32_11, v4, c1_i32_13⟩
@[reducible] def k1_t8_loop : Scf.Loop 32 :=
  let c0_i32_19 : BitVec 32 := 0#32
  let c3_i32 : BitVec 32 := 3#32
  let v8 : BitVec 32 := Scalar.addi c0_i32_19 c3_i32
  let c1_i32_20 : BitVec 32 := 1#32
  ⟨c0_i32_19, v8, c1_i32_20⟩
def k1_off16 (k1_t7 : Fin k1_t7_loop.trips) (k1_t8 : Fin k1_t8_loop.trips) : Fin 4 → Nat :=
  let c0_35 : Index := 0#32
  let c4_i32_32 : BitVec 32 := 4#32
  let c0_i32_11 : BitVec 32 := 0#32
  let c1_i32_13 : BitVec 32 := 1#32
  let arg6 : BitVec 32 := Scf.iv c0_i32_11 c1_i32_13 k1_t7
  let c8_i32 : BitVec 32 := 8#32
  let v6 : BitVec 32 := Scalar.muli arg6 c8_i32
  let v35 : BitVec 32 := Scalar.addi c4_i32_32 v6
  let c4_i32_34 : BitVec 32 := 4#32
  let c0_i32_19 : BitVec 32 := 0#32
  let c1_i32_20 : BitVec 32 := 1#32
  let arg7 : BitVec 32 := Scf.iv c0_i32_19 c1_i32_20 k1_t8
  let c1_i32_33 : BitVec 32 := 1#32
  let v36 : BitVec 32 := Scalar.subi arg7 c1_i32_33
  let v37 : BitVec 32 := Scalar.muli c4_i32_34 v36
  let v38 : BitVec 32 := Scalar.addi v35 v37
  let v39 : Index := Scalar.indexCast v38
  let c0_36 : Index := 0#32
  let c0_37 : Index := 0#32
  ![0, v39.toNat, 0, 0]
def k1_off17 (k1_t8 : Fin k1_t8_loop.trips) (c162_i32 : BitVec 32) (c0_i32_40 : BitVec 32) (c0_i32_41 : BitVec 32) : Fin 1 → Nat :=
  let c0_i32_19 : BitVec 32 := 0#32
  let c1_i32_20 : BitVec 32 := 1#32
  let arg7 : BitVec 32 := Scf.iv c0_i32_19 c1_i32_20 k1_t8
  let c9_i32 : BitVec 32 := 9#32
  let v44 : BitVec 32 := Scalar.muli arg7 c9_i32
  let v45 : BitVec 32 := Scalar.addi v44 c0_i32_40
  let v46 : BitVec 32 := Scalar.addi v45 c0_i32_41
  let v47 : BitVec 32 := Scalar.addi c162_i32 v46
  let v48 : Index := Scalar.indexCast v47
  ![v48.toNat]
def k1_off18 (k1_t7 : Fin k1_t7_loop.trips) (k1_t8 : Fin k1_t8_loop.trips) : Fin 4 → Nat :=
  let c1_85 : Index := 1#32
  let c4_i32_32 : BitVec 32 := 4#32
  let c0_i32_11 : BitVec 32 := 0#32
  let c1_i32_13 : BitVec 32 := 1#32
  let arg6 : BitVec 32 := Scf.iv c0_i32_11 c1_i32_13 k1_t7
  let c8_i32 : BitVec 32 := 8#32
  let v6 : BitVec 32 := Scalar.muli arg6 c8_i32
  let v35 : BitVec 32 := Scalar.addi c4_i32_32 v6
  let c4_i32_34 : BitVec 32 := 4#32
  let c0_i32_19 : BitVec 32 := 0#32
  let c1_i32_20 : BitVec 32 := 1#32
  let arg7 : BitVec 32 := Scf.iv c0_i32_19 c1_i32_20 k1_t8
  let c1_i32_33 : BitVec 32 := 1#32
  let v36 : BitVec 32 := Scalar.subi arg7 c1_i32_33
  let v37 : BitVec 32 := Scalar.muli c4_i32_34 v36
  let v38 : BitVec 32 := Scalar.addi v35 v37
  let v185 : Index := Scalar.indexCast v38
  let c0_86 : Index := 0#32
  let c0_87 : Index := 0#32
  ![1, v185.toNat, 0, 0]
def k1_off19 (k1_t7 : Fin k1_t7_loop.trips) : Fin 3 → Nat :=
  let c0_i32_11 : BitVec 32 := 0#32
  let c1_i32_13 : BitVec 32 := 1#32
  let arg6 : BitVec 32 := Scf.iv c0_i32_11 c1_i32_13 k1_t7
  let c8_i32 : BitVec 32 := 8#32
  let v6 : BitVec 32 := Scalar.muli arg6 c8_i32
  let v12 : Index := Scalar.indexCast v6
  let c0 : Index := 0#32
  let c0_22 : Index := 0#32
  ![v12.toNat, 0, 0]
def k1_off20 (k1_t7 : Fin k1_t7_loop.trips) : Fin 4 → Nat :=
  let c0_25 : Index := 0#32
  let c4_i32 : BitVec 32 := 4#32
  let c0_i32_11 : BitVec 32 := 0#32
  let c1_i32_13 : BitVec 32 := 1#32
  let arg6 : BitVec 32 := Scf.iv c0_i32_11 c1_i32_13 k1_t7
  let c8_i32 : BitVec 32 := 8#32
  let v6 : BitVec 32 := Scalar.muli arg6 c8_i32
  let v22 : BitVec 32 := Scalar.addi c4_i32 v6
  let v23 : Index := Scalar.indexCast v22
  let c0_26 : Index := 0#32
  let c0_27 : Index := 0#32
  ![0, v23.toNat, 0, 0]
def k1_off21 (k1_t7 : Fin k1_t7_loop.trips) : Fin 4 → Nat :=
  let c1 : Index := 1#32
  let c4_i32_29 : BitVec 32 := 4#32
  let c0_i32_11 : BitVec 32 := 0#32
  let c1_i32_13 : BitVec 32 := 1#32
  let arg6 : BitVec 32 := Scf.iv c0_i32_11 c1_i32_13 k1_t7
  let c8_i32 : BitVec 32 := 8#32
  let v6 : BitVec 32 := Scalar.muli arg6 c8_i32
  let v30 : BitVec 32 := Scalar.addi c4_i32_29 v6
  let v31 : Index := Scalar.indexCast v30
  let c0_30 : Index := 0#32
  let c0_31 : Index := 0#32
  ![1, v31.toNat, 0, 0]
@[reducible] def k1_t9_loop : Scf.Loop 32 :=
  let c0_i32_15 : BitVec 32 := 0#32
  let c12_i32_16 : BitVec 32 := 12#32
  let v5 : BitVec 32 := Scalar.addi c0_i32_15 c12_i32_16
  let c1_i32_17 : BitVec 32 := 1#32
  ⟨c0_i32_15, v5, c1_i32_17⟩
@[reducible] def k1_t10_loop : Scf.Loop 32 :=
  let c0_i32_19 : BitVec 32 := 0#32
  let c3_i32 : BitVec 32 := 3#32
  let v8 : BitVec 32 := Scalar.addi c0_i32_19 c3_i32
  let c1_i32_20 : BitVec 32 := 1#32
  ⟨c0_i32_19, v8, c1_i32_20⟩
def k1_off22 (k1_t9 : Fin k1_t9_loop.trips) (k1_t10 : Fin k1_t10_loop.trips) : Fin 4 → Nat :=
  let c0_35 : Index := 0#32
  let c4_i32 : BitVec 32 := 4#32
  let c0_i32_15 : BitVec 32 := 0#32
  let c1_i32_17 : BitVec 32 := 1#32
  let arg6 : BitVec 32 := Scf.iv c0_i32_15 c1_i32_17 k1_t9
  let c8_i32 : BitVec 32 := 8#32
  let v6 : BitVec 32 := Scalar.muli arg6 c8_i32
  let v55 : BitVec 32 := Scalar.addi c4_i32 v6
  let c2_i32 : BitVec 32 := 2#32
  let c0_i32_19 : BitVec 32 := 0#32
  let c1_i32_20 : BitVec 32 := 1#32
  let arg7 : BitVec 32 := Scf.iv c0_i32_19 c1_i32_20 k1_t10
  let c1_i32_34 : BitVec 32 := 1#32
  let v56 : BitVec 32 := Scalar.subi arg7 c1_i32_34
  let v57 : BitVec 32 := Scalar.muli c2_i32 v56
  let v58 : BitVec 32 := Scalar.addi v55 v57
  let v59 : Index := Scalar.indexCast v58
  let c0_36 : Index := 0#32
  let c0_37 : Index := 0#32
  ![0, v59.toNat, 0, 0]
def k1_off23 (k1_t10 : Fin k1_t10_loop.trips) (c270_i32 : BitVec 32) (c0_i32_40 : BitVec 32) (c0_i32_41 : BitVec 32) : Fin 1 → Nat :=
  let c0_i32_19 : BitVec 32 := 0#32
  let c1_i32_20 : BitVec 32 := 1#32
  let arg7 : BitVec 32 := Scf.iv c0_i32_19 c1_i32_20 k1_t10
  let c9_i32 : BitVec 32 := 9#32
  let v64 : BitVec 32 := Scalar.muli arg7 c9_i32
  let v65 : BitVec 32 := Scalar.addi v64 c0_i32_40
  let v66 : BitVec 32 := Scalar.addi v65 c0_i32_41
  let v67 : BitVec 32 := Scalar.addi c270_i32 v66
  let v68 : Index := Scalar.indexCast v67
  ![v68.toNat]
def k1_off24 (k1_t9 : Fin k1_t9_loop.trips) (k1_t10 : Fin k1_t10_loop.trips) : Fin 4 → Nat :=
  let c1 : Index := 1#32
  let c4_i32 : BitVec 32 := 4#32
  let c0_i32_15 : BitVec 32 := 0#32
  let c1_i32_17 : BitVec 32 := 1#32
  let arg6 : BitVec 32 := Scf.iv c0_i32_15 c1_i32_17 k1_t9
  let c8_i32 : BitVec 32 := 8#32
  let v6 : BitVec 32 := Scalar.muli arg6 c8_i32
  let v55 : BitVec 32 := Scalar.addi c4_i32 v6
  let c2_i32 : BitVec 32 := 2#32
  let c0_i32_19 : BitVec 32 := 0#32
  let c1_i32_20 : BitVec 32 := 1#32
  let arg7 : BitVec 32 := Scf.iv c0_i32_19 c1_i32_20 k1_t10
  let c1_i32_34 : BitVec 32 := 1#32
  let v56 : BitVec 32 := Scalar.subi arg7 c1_i32_34
  let v57 : BitVec 32 := Scalar.muli c2_i32 v56
  let v58 : BitVec 32 := Scalar.addi v55 v57
  let v205 : Index := Scalar.indexCast v58
  let c0_86 : Index := 0#32
  let c0_87 : Index := 0#32
  ![1, v205.toNat, 0, 0]
def k1_off25 (k1_t9 : Fin k1_t9_loop.trips) : Fin 3 → Nat :=
  let c0_i32_15 : BitVec 32 := 0#32
  let c1_i32_17 : BitVec 32 := 1#32
  let arg6 : BitVec 32 := Scf.iv c0_i32_15 c1_i32_17 k1_t9
  let c8_i32 : BitVec 32 := 8#32
  let v6 : BitVec 32 := Scalar.muli arg6 c8_i32
  let v12 : Index := Scalar.indexCast v6
  let c0 : Index := 0#32
  let c0_22 : Index := 0#32
  ![v12.toNat, 0, 0]
abbrev stage1_0 : Fin 1 → Memref sig .tc .vmem S96x96x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S382 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S96x96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S96x96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S2x96x96x96 : Shape := ⟨4, ![2, 96, 96, 96]⟩
abbrev S2x1x3x3x3 : Shape := ⟨5, ![2, 1, 3, 3, 3]⟩
abbrev S2x2x3x3x3 : Shape := ⟨5, ![2, 2, 3, 3, 3]⟩
abbrev S2x2x1x1x1 : Shape := ⟨5, ![2, 2, 1, 1, 1]⟩
abbrev S_ : Shape := ⟨0, ![]⟩
abbrev S2x1x96x96x96 : Shape := ⟨5, ![2, 1, 96, 96, 96]⟩
abbrev S2x1x98x98x98 : Shape := ⟨5, ![2, 1, 98, 98, 98]⟩
abbrev S2x1x98x98x96 : Shape := ⟨5, ![2, 1, 98, 98, 96]⟩
abbrev S2x1x98x98x1x96 : Shape := ⟨6, ![2, 1, 98, 98, 1, 96]⟩
abbrev S2x1x98x98x3x96 : Shape := ⟨6, ![2, 1, 98, 98, 3, 96]⟩
abbrev S2x1x98x96x3x96 : Shape := ⟨6, ![2, 1, 98, 96, 3, 96]⟩
abbrev S2x1x98x1x96x3x96 : Shape := ⟨7, ![2, 1, 98, 1, 96, 3, 96]⟩
abbrev S2x1x98x3x96x3x96 : Shape := ⟨7, ![2, 1, 98, 3, 96, 3, 96]⟩
abbrev S2x1x96x3x96x3x96 : Shape := ⟨7, ![2, 1, 96, 3, 96, 3, 96]⟩
abbrev S2x1x1x96x3x96x3x96 : Shape := ⟨8, ![2, 1, 1, 96, 3, 96, 3, 96]⟩
abbrev S2x1x3x96x3x96x3x96 : Shape := ⟨8, ![2, 1, 3, 96, 3, 96, 3, 96]⟩
abbrev S2x2x96x96x96 : Shape := ⟨5, ![2, 2, 96, 96, 96]⟩
abbrev S2x2x100x100x100 : Shape := ⟨5, ![2, 2, 100, 100, 100]⟩
abbrev S2x2x100x100x96 : Shape := ⟨5, ![2, 2, 100, 100, 96]⟩
abbrev S2x2x100x100x1x96 : Shape := ⟨6, ![2, 2, 100, 100, 1, 96]⟩
abbrev S2x2x100x100x3x96 : Shape := ⟨6, ![2, 2, 100, 100, 3, 96]⟩
abbrev S2x2x100x96x3x96 : Shape := ⟨6, ![2, 2, 100, 96, 3, 96]⟩
abbrev S2x2x100x1x96x3x96 : Shape := ⟨7, ![2, 2, 100, 1, 96, 3, 96]⟩
abbrev S2x2x100x3x96x3x96 : Shape := ⟨7, ![2, 2, 100, 3, 96, 3, 96]⟩
abbrev S2x2x96x3x96x3x96 : Shape := ⟨7, ![2, 2, 96, 3, 96, 3, 96]⟩
abbrev S2x2x1x96x3x96x3x96 : Shape := ⟨8, ![2, 2, 1, 96, 3, 96, 3, 96]⟩
abbrev S2x2x3x96x3x96x3x96 : Shape := ⟨8, ![2, 2, 3, 96, 3, 96, 3, 96]⟩
abbrev S2x2x104x104x104 : Shape := ⟨5, ![2, 2, 104, 104, 104]⟩
abbrev S2x2x104x104x96 : Shape := ⟨5, ![2, 2, 104, 104, 96]⟩
abbrev S2x2x104x104x1x96 : Shape := ⟨6, ![2, 2, 104, 104, 1, 96]⟩
abbrev S2x2x104x104x3x96 : Shape := ⟨6, ![2, 2, 104, 104, 3, 96]⟩
abbrev S2x2x104x96x3x96 : Shape := ⟨6, ![2, 2, 104, 96, 3, 96]⟩
abbrev S2x2x104x1x96x3x96 : Shape := ⟨7, ![2, 2, 104, 1, 96, 3, 96]⟩
abbrev S2x2x104x3x96x3x96 : Shape := ⟨7, ![2, 2, 104, 3, 96, 3, 96]⟩
abbrev S2x2 : Shape := ⟨2, ![2, 2]⟩

abbrev nBuf : Space → Nat
  | .hbm => 151
  | .vmem => 0
  | .smem => 0
  | _ => 0

abbrev hbmTy0_0 (i : Nat) : BufTy := match i % 128 with
  | 0 => ⟨S2x96x96x96, .f32⟩
  | 1 => ⟨S2x1x3x3x3, .f32⟩
  | 2 => ⟨S2x2x3x3x3, .f32⟩
  | 3 => ⟨S2x2x3x3x3, .f32⟩
  | 4 => ⟨S2x2x3x3x3, .f32⟩
  | 5 => ⟨S2x2x1x1x1, .f32⟩
  | 6 => ⟨S_, .f32⟩
  | 7 => ⟨S2x96x96x96, .f32⟩
  | 8 => ⟨S2x96x96x96, .i1⟩
  | 9 => ⟨S2x96x96x96, .f32⟩
  | 10 => ⟨S2x1x96x96x96, .f32⟩
  | 11 => ⟨S2x1x96x96x96, .f32⟩
  | 12 => ⟨S_, .i32⟩
  | 13 => ⟨S_, .f32⟩
  | 14 => ⟨S2x1x98x98x98, .f32⟩
  | 15 => ⟨S2x1x98x98x96, .f32⟩
  | 16 => ⟨S2x1x98x98x96, .f32⟩
  | 17 => ⟨S2x1x98x98x96, .f32⟩
  | 18 => ⟨S2x1x98x98x1x96, .f32⟩
  | 19 => ⟨S2x1x98x98x1x96, .f32⟩
  | 20 => ⟨S2x1x98x98x1x96, .f32⟩
  | 21 => ⟨S2x1x98x98x3x96, .f32⟩
  | 22 => ⟨S2x1x98x96x3x96, .f32⟩
  | 23 => ⟨S2x1x98x96x3x96, .f32⟩
  | 24 => ⟨S2x1x98x96x3x96, .f32⟩
  | 25 => ⟨S2x1x98x1x96x3x96, .f32⟩
  | 26 => ⟨S2x1x98x1x96x3x96, .f32⟩
  | 27 => ⟨S2x1x98x1x96x3x96, .f32⟩
  | 28 => ⟨S2x1x98x3x96x3x96, .f32⟩
  | 29 => ⟨S2x1x96x3x96x3x96, .f32⟩
  | 30 => ⟨S2x1x96x3x96x3x96, .f32⟩
  | 31 => ⟨S2x1x96x3x96x3x96, .f32⟩
  | 32 => ⟨S2x1x1x96x3x96x3x96, .f32⟩
  | 33 => ⟨S2x1x1x96x3x96x3x96, .f32⟩
  | 34 => ⟨S2x1x1x96x3x96x3x96, .f32⟩
  | 35 => ⟨S2x1x3x96x3x96x3x96, .f32⟩
  | 36 => ⟨S2x2x96x96x96, .f32⟩
  | 37 => ⟨S2x2x96x96x96, .f32⟩
  | 38 => ⟨S_, .f32⟩
  | 39 => ⟨S2x2x96x96x96, .f32⟩
  | 40 => ⟨S2x2x96x96x96, .f32⟩
  | 41 => ⟨S2x2x96x96x96, .f32⟩
  | 42 => ⟨S2x2x96x96x96, .f32⟩
  | 43 => ⟨S_, .i32⟩
  | 44 => ⟨S_, .f32⟩
  | 45 => ⟨S2x2x100x100x100, .f32⟩
  | 46 => ⟨S2x2x100x100x96, .f32⟩
  | 47 => ⟨S2x2x100x100x96, .f32⟩
  | 48 => ⟨S2x2x100x100x96, .f32⟩
  | 49 => ⟨S2x2x100x100x1x96, .f32⟩
  | 50 => ⟨S2x2x100x100x1x96, .f32⟩
  | 51 => ⟨S2x2x100x100x1x96, .f32⟩
  | 52 => ⟨S2x2x100x100x3x96, .f32⟩
  | 53 => ⟨S2x2x100x96x3x96, .f32⟩
  | 54 => ⟨S2x2x100x96x3x96, .f32⟩
  | 55 => ⟨S2x2x100x96x3x96, .f32⟩
  | 56 => ⟨S2x2x100x1x96x3x96, .f32⟩
  | 57 => ⟨S2x2x100x1x96x3x96, .f32⟩
  | 58 => ⟨S2x2x100x1x96x3x96, .f32⟩
  | 59 => ⟨S2x2x100x3x96x3x96, .f32⟩
  | 60 => ⟨S2x2x96x3x96x3x96, .f32⟩
  | 61 => ⟨S2x2x96x3x96x3x96, .f32⟩
  | 62 => ⟨S2x2x96x3x96x3x96, .f32⟩
  | 63 => ⟨S2x2x1x96x3x96x3x96, .f32⟩
  | 64 => ⟨S2x2x1x96x3x96x3x96, .f32⟩
  | 65 => ⟨S2x2x1x96x3x96x3x96, .f32⟩
  | 66 => ⟨S2x2x3x96x3x96x3x96, .f32⟩
  | 67 => ⟨S2x2x96x96x96, .f32⟩
  | 68 => ⟨S2x2x96x96x96, .f32⟩
  | 69 => ⟨S_, .f32⟩
  | 70 => ⟨S2x2x96x96x96, .f32⟩
  | 71 => ⟨S2x2x96x96x96, .f32⟩
  | 72 => ⟨S2x2x96x96x96, .f32⟩
  | 73 => ⟨S2x2x96x96x96, .f32⟩
  | 74 => ⟨S_, .i32⟩
  | 75 => ⟨S_, .f32⟩
  | 76 => ⟨S2x2x104x104x104, .f32⟩
  | 77 => ⟨S2x2x104x104x96, .f32⟩
  | 78 => ⟨S2x2x104x104x96, .f32⟩
  | 79 => ⟨S2x2x104x104x96, .f32⟩
  | 80 => ⟨S2x2x104x104x1x96, .f32⟩
  | 81 => ⟨S2x2x104x104x1x96, .f32⟩
  | 82 => ⟨S2x2x104x104x1x96, .f32⟩
  | 83 => ⟨S2x2x104x104x3x96, .f32⟩
  | 84 => ⟨S2x2x104x96x3x96, .f32⟩
  | 85 => ⟨S2x2x104x96x3x96, .f32⟩
  | 86 => ⟨S2x2x104x96x3x96, .f32⟩
  | 87 => ⟨S2x2x104x1x96x3x96, .f32⟩
  | 88 => ⟨S2x2x104x1x96x3x96, .f32⟩
  | 89 => ⟨S2x2x104x1x96x3x96, .f32⟩
  | 90 => ⟨S2x2x104x3x96x3x96, .f32⟩
  | 91 => ⟨S2x2x96x3x96x3x96, .f32⟩
  | 92 => ⟨S2x2x96x3x96x3x96, .f32⟩
  | 93 => ⟨S2x2x96x3x96x3x96, .f32⟩
  | 94 => ⟨S2x2x1x96x3x96x3x96, .f32⟩
  | 95 => ⟨S2x2x1x96x3x96x3x96, .f32⟩
  | 96 => ⟨S2x2x1x96x3x96x3x96, .f32⟩
  | 97 => ⟨S2x2x3x96x3x96x3x96, .f32⟩
  | 98 => ⟨S2x2x96x96x96, .f32⟩
  | 99 => ⟨S2x2x96x96x96, .f32⟩
  | 100 => ⟨S_, .f32⟩
  | 101 => ⟨S2x2x96x96x96, .f32⟩
  | 102 => ⟨S2x2x96x96x96, .f32⟩
  | 103 => ⟨S2x2x96x96x96, .f32⟩
  | 104 => ⟨S2x2x96x96x96, .f32⟩
  | 105 => ⟨S_, .i32⟩
  | 106 => ⟨S_, .f32⟩
  | 107 => ⟨S2x2x100x100x100, .f32⟩
  | 108 => ⟨S2x2x100x100x96, .f32⟩
  | 109 => ⟨S2x2x100x100x96, .f32⟩
  | 110 => ⟨S2x2x100x100x96, .f32⟩
  | 111 => ⟨S2x2x100x100x1x96, .f32⟩
  | 112 => ⟨S2x2x100x100x1x96, .f32⟩
  | 113 => ⟨S2x2x100x100x1x96, .f32⟩
  | 114 => ⟨S2x2x100x100x3x96, .f32⟩
  | 115 => ⟨S2x2x100x96x3x96, .f32⟩
  | 116 => ⟨S2x2x100x96x3x96, .f32⟩
  | 117 => ⟨S2x2x100x96x3x96, .f32⟩
  | 118 => ⟨S2x2x100x1x96x3x96, .f32⟩
  | 119 => ⟨S2x2x100x1x96x3x96, .f32⟩
  | 120 => ⟨S2x2x100x1x96x3x96, .f32⟩
  | 121 => ⟨S2x2x100x3x96x3x96, .f32⟩
  | 122 => ⟨S2x2x96x3x96x3x96, .f32⟩
  | 123 => ⟨S2x2x96x3x96x3x96, .f32⟩
  | 124 => ⟨S2x2x96x3x96x3x96, .f32⟩
  | 125 => ⟨S2x2x1x96x3x96x3x96, .f32⟩
  | 126 => ⟨S2x2x1x96x3x96x3x96, .f32⟩
  | 127 => ⟨S2x2x1x96x3x96x3x96, .f32⟩
  | _ => ⟨S2x96x96x96, .f32⟩

abbrev hbmTy0_1 (i : Nat) : BufTy := match i % 128 with
  | 0 => ⟨S2x2x3x96x3x96x3x96, .f32⟩
  | 1 => ⟨S2x2x96x96x96, .f32⟩
  | 2 => ⟨S2x2x96x96x96, .f32⟩
  | 3 => ⟨S_, .f32⟩
  | 4 => ⟨S2x2x96x96x96, .f32⟩
  | 5 => ⟨S2x2x96x96x96, .f32⟩
  | 6 => ⟨S2x2x96x96x96, .f32⟩
  | 7 => ⟨S2x2x96x96x96, .f32⟩
  | 8 => ⟨S2x2, .f32⟩
  | 9 => ⟨S2x2x96x96x96, .f32⟩
  | 10 => ⟨S2x2x96x96x96, .f32⟩
  | 11 => ⟨S2x2x96x96x96, .f32⟩
  | 12 => ⟨S2x2x96x96x96, .f32⟩
  | 13 => ⟨S_, .f32⟩
  | 14 => ⟨S2x2x96x96x96, .f32⟩
  | 15 => ⟨S2x2x96x96x96, .f32⟩
  | 16 => ⟨S_, .f32⟩
  | 17 => ⟨S2x2x96x96x96, .f32⟩
  | 18 => ⟨S2x2x96x96x96, .f32⟩
  | 19 => ⟨S2x2x96x96x96, .f32⟩
  | 20 => ⟨S2x2x96x96x96, .f32⟩
  | 21 => ⟨S2x1x96x96x96, .f32⟩
  | 22 => ⟨S2x1x96x96x96, .f32⟩
  | _ => ⟨S2x96x96x96, .f32⟩

abbrev hbmTy (i : Nat) : BufTy := match i / 128 with
  | 0 => hbmTy0_0 i
  | 1 => hbmTy0_1 i
  | _ => ⟨S2x96x96x96, .f32⟩

abbrev bufTy : (tb : Table) → Fin (tcTables nBuf tb) → BufTy
  | .hbm, ⟨i, _⟩ => hbmTy i
  | _, _ => ⟨S2x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call1_cst : Ref sig .tc := ⟨.hbm, 38, rfl⟩
abbrev main_call1_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_0 : Ref sig .tc := ⟨.hbm, 43, rfl⟩
abbrev main_call2_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call3_cst : Ref sig .tc := ⟨.hbm, 69, rfl⟩
abbrev main_call3_v0 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_1 : Ref sig .tc := ⟨.hbm, 74, rfl⟩
abbrev main_call4_v0 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_call5_cst : Ref sig .tc := ⟨.hbm, 100, rfl⟩
abbrev main_call5_v0 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_c_2 : Ref sig .tc := ⟨.hbm, 105, rfl⟩
abbrev main_call6_v0 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_call7_cst : Ref sig .tc := ⟨.hbm, 131, rfl⟩
abbrev main_call7_v0 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_3 : Ref sig .tc := ⟨.hbm, 141, rfl⟩
abbrev main_v118 : Ref sig .tc := ⟨.hbm, 142, rfl⟩
abbrev main_v119 : Ref sig .tc := ⟨.hbm, 143, rfl⟩
abbrev main_cst_4 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩

abbrev nD : Nat := 1
abbrev τ : Topo := Topo.v7x

variable {F : FTy → Type} [FloatOps F]
-- ==== Proof.Body.lean ====
module

public import proofs.«01_k».proof.Proof.Gen.KernelIdeal.Loops

/-!
The encoder kernel's body, run once at arbitrary float values.

The body clears two scratch volumes, copies its slab-by-slab input into the first, and then makes four passes, each a
loop over twelve slabs of eight planes with an inner loop over the three depth taps.  This file goes through the four slab
loops: each trip stores two pieces, and after `k` trips the written buffer holds its contents at entry with the pieces of
the first `k` trips laid over it.  `body` is the whole kernel: what the two result buffers hold in the end is the value
the run found, read off by the other modules.
-/

@[expose] public section

set_option maxRecDepth 16384
set_option warn.classDefReducibility false

noncomputable section

namespace Cert.Proof.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The lists of the first `k` of `n` trips, the last trip's in front. -/
def laid {P : Type} {n : ℕ} (L : Fin n → List P) : ℕ → List P
  | 0 => []
  | k + 1 => (if h : k < n then L ⟨k, h⟩ else []) ++ laid L k

/-- One more trip puts its list in front. -/
theorem laid_succ {P : Type} {n : ℕ} (L : Fin n → List P) (k : Fin n) : laid L (k.val + 1) = L k ++ laid L k.val := by
  rw [laid, dif_pos k.isLt]

/-- A whole memory reference of the core, held in full at contents `X`. -/
abbrev at_ (c : Dev nD) {sp : Space} {s : Shape} (a : Memref sig .tc sp s .f32) (X : BufTy.Contents (Elt F) a.view.ty) : sProp 𝕄 :=
  iprop(a.view.loc (c : Thread nD τ) ↦[a.view.set]{fullShare} X)

variable (c : Dev nD) (arg0 : Memref sig .tc .vmem S96x96x96 .f32) (harg0 : arg0.IsWhole) (arg1 : Memref sig .tc .smem S382 .f32) (harg1 : arg1.IsWhole) (arg2 : Memref sig .tc .vmem S96x96x96 .f32) (harg2 : arg2.IsWhole) (arg3 : Memref sig .tc .vmem S96x96x96 .f32) (harg3 : arg3.IsWhole) (arg4 : Memref sig .tc .vmem S2x104x104x104 .f32) (harg4 : arg4.IsWhole) (arg5 : Memref sig .tc .vmem S2x104x104x104 .f32) (harg5 : arg5.IsWhole)
variable (X0 : BufTy.Contents (Elt F) arg0.view.ty) (X1 : BufTy.Contents (Elt F) arg1.view.ty)

/-! ## The first pass -/

/-- Slab `k` of the first pass: it reads the input, the weights and `arg4`, and lays two pieces over `arg5`. -/
def trip3 (Xs : BufTy.Contents (Elt F) arg4.view.ty) (k : Fin k0_t3_loop.trips) :
    { L : List (View.Piece (Elt F) S2x104x104x104 .f32) // ∀ f : BufTy.Contents (Elt F) arg5.view.ty,
      (iprop(at_ c arg0 X0 ∗ at_ c arg1 X1 ∗ at_ c arg4 Xs ∗ at_ c arg5 f) : sProp 𝕄)
      ⊢ wp frame (wpE (defs₀ (F := F)) Variants.none (c : Thread nD τ) none) Set.univ (k0_t3_body (F := F) arg0 harg0 arg1 harg1 arg2 harg2 arg3 harg3 arg4 harg4 arg5 harg5 k ())
        (fun _ => iprop(at_ c arg0 X0 ∗ at_ c arg1 X1 ∗ at_ c arg4 Xs ∗ at_ c arg5 (arg5.view.writes (Elt F) f L))) } := by
  have hk : k.val < 12 := Nat.lt_of_lt_of_le k.isLt k0_t3_abs.2.1
  refine ⟨?_, fun f => ?run⟩
  case run =>
    unfold k0_t3_body
    iintro ⟨H0, H1, Hs, Hd⟩
    sl_exec
    sl_step
    sl_close

/-- The pieces of slab `k`. -/
abbrev pieces3 (Xs : BufTy.Contents (Elt F) arg4.view.ty) (k : Fin k0_t3_loop.trips) : List (View.Piece (Elt F) S2x104x104x104 .f32) :=
  (trip3 c arg0 harg0 arg1 harg1 arg2 harg2 arg3 harg3 arg4 harg4 arg5 harg5 X0 X1 Xs k).1

/-- The first pass by its invariant: before slab `k` the buffer `arg5` holds its contents at entry under the pieces of
    the slabs before. -/
@[sl_loop] def pass3 (Xs : BufTy.Contents (Elt F) arg4.view.ty) (G : BufTy.Contents (Elt F) arg5.view.ty) :
    LoopInvTy_k0_t3 (F := F) Unit ℕ (UR sig nD τ) ℕ Variants.none c none Set.univ arg0 harg0 arg1 harg1 arg2 harg2 arg3 harg3 arg4 harg4 arg5 harg5 where
  inv k _ := iprop(at_ c arg0 X0 ∗ at_ c arg1 X1 ∗ at_ c arg4 Xs
    ∗ ∃ f, at_ c arg5 f ∗ ⌜f = arg5.view.writes (Elt F) G (laid (pieces3 c arg0 harg0 arg1 harg1 arg2 harg2 arg3 harg3 arg4 harg4 arg5 harg5 X0 X1 Xs) k)⌝)
  step k acc := by
    iintro ⟨H0, H1, Hs, ⟨%f, Hd, %hf⟩⟩
    iapply (wp_wand_r Idealize.ShloMosaic.frame (wpE (defs₀ (F := F)) Variants.none (c : Thread nD τ) none) Set.univ)
    isplitl [H0 H1 Hs Hd]
    · iapply ((trip3 c arg0 harg0 arg1 harg1 arg2 harg2 arg3 harg3 arg4 harg4 arg5 harg5 X0 X1 Xs k).2 f)
      isplitl [H0]; · iexact H0
      isplitl [H1]; · iexact H1
      isplitl [Hs]; · iexact Hs
      iexact Hd
    · iintro %_ ⟨H0, H1, Hs, Hd⟩
      isplitl [H0]; · iexact H0
      isplitl [H1]; · iexact H1
      isplitl [Hs]; · iexact Hs
      rw [laid_succ]
      iexists _; isplitl [Hd]; · iexact Hd
      ipureintro; rw [hf, ← View.writes_append]

/-! ## The second pass -/

/-- Slab `k` of the second pass: it reads the input, the weights and `arg5`, and lays two pieces over `arg4`. -/
def trip5 (Xs : BufTy.Contents (Elt F) arg5.view.ty) (k : Fin k0_t5_loop.trips) :
    { L : List (View.Piece (Elt F) S2x104x104x104 .f32) // ∀ f : BufTy.Contents (Elt F) arg4.view.ty,
      (iprop(at_ c arg0 X0 ∗ at_ c arg1 X1 ∗ at_ c arg5 Xs ∗ at_ c arg4 f) : sProp 𝕄)
      ⊢ wp frame (wpE (defs₀ (F := F)) Variants.none (c : Thread nD τ) none) Set.univ (k0_t5_body (F := F) arg0 harg0 arg1 harg1 arg2 harg2 arg3 harg3 arg4 harg4 arg5 harg5 k ())
        (fun _ => iprop(at_ c arg0 X0 ∗ at_ c arg1 X1 ∗ at_ c arg5 Xs ∗ at_ c arg4 (arg4.view.writes (Elt F) f L))) } := by
  have hk : k.val < 12 := Nat.lt_of_lt_of_le k.isLt k0_t5_abs.2.1
  refine ⟨?_, fun f => ?run⟩
  case run =>
    unfold k0_t5_body
    iintro ⟨H0, H1, Hs, Hd⟩
    sl_exec
    sl_step
    sl_close

/-- The pieces of slab `k`. -/
abbrev pieces5 (Xs : BufTy.Contents (Elt F) arg5.view.ty) (k : Fin k0_t5_loop.trips) : List (View.Piece (Elt F) S2x104x104x104 .f32) :=
  (trip5 c arg0 harg0 arg1 harg1 arg2 harg2 arg3 harg3 arg4 harg4 arg5 harg5 X0 X1 Xs k).1

/-- The second pass by its invariant: before slab `k` the buffer `arg4` holds its contents at entry under the pieces of
    the slabs before. -/
@[sl_loop] def pass5 (Xs : BufTy.Contents (Elt F) arg5.view.ty) (G : BufTy.Contents (Elt F) arg4.view.ty) :
    LoopInvTy_k0_t5 (F := F) Unit ℕ (UR sig nD τ) ℕ Variants.none c none Set.univ arg0 harg0 arg1 harg1 arg2 harg2 arg3 harg3 arg4 harg4 arg5 harg5 where
  inv k _ := iprop(at_ c arg0 X0 ∗ at_ c arg1 X1 ∗ at_ c arg5 Xs
    ∗ ∃ f, at_ c arg4 f ∗ ⌜f = arg4.view.writes (Elt F) G (laid (pieces5 c arg0 harg0 arg1 harg1 arg2 harg2 arg3 harg3 arg4 harg4 arg5 harg5 X0 X1 Xs) k)⌝)
  step k acc := by
    iintro ⟨H0, H1, Hs, ⟨%f, Hd, %hf⟩⟩
    iapply (wp_wand_r Idealize.ShloMosaic.frame (wpE (defs₀ (F := F)) Variants.none (c : Thread nD τ) none) Set.univ)
    isplitl [H0 H1 Hs Hd]
    · iapply ((trip5 c arg0 harg0 arg1 harg1 arg2 harg2 arg3 harg3 arg4 harg4 arg5 harg5 X0 X1 Xs k).2 f)
      isplitl [H0]; · iexact H0
      isplitl [H1]; · iexact H1
      isplitl [Hs]; · iexact Hs
      iexact Hd
    · iintro %_ ⟨H0, H1, Hs, Hd⟩
      isplitl [H0]; · iexact H0
      isplitl [H1]; · iexact H1
      isplitl [Hs]; · iexact Hs
      rw [laid_succ]
      iexists _; isplitl [Hd]; · iexact Hd
      ipureintro; rw [hf, ← View.writes_append]

/-! ## The third pass -/

/-- Slab `k` of the third pass: it reads the input, the weights and `arg4`, and lays two pieces over `arg5`. -/
def trip7 (Xs : BufTy.Contents (Elt F) arg4.view.ty) (k : Fin k0_t7_loop.trips) :
    { L : List (View.Piece (Elt F) S2x104x104x104 .f32) // ∀ f : BufTy.Contents (Elt F) arg5.view.ty,
      (iprop(at_ c arg0 X0 ∗ at_ c arg1 X1 ∗ at_ c arg4 Xs ∗ at_ c arg5 f) : sProp 𝕄)
      ⊢ wp frame (wpE (defs₀ (F := F)) Variants.none (c : Thread nD τ) none) Set.univ (k0_t7_body (F := F) arg0 harg0 arg1 harg1 arg2 harg2 arg3 harg3 arg4 harg4 arg5 harg5 k ())
        (fun _ => iprop(at_ c arg0 X0 ∗ at_ c arg1 X1 ∗ at_ c arg4 Xs ∗ at_ c arg5 (arg5.view.writes (Elt F) f L))) } := by
  have hk : k.val < 12 := Nat.lt_of_lt_of_le k.isLt k0_t7_abs.2.1
  refine ⟨?_, fun f => ?run⟩
  case run =>
    unfold k0_t7_body
    iintro ⟨H0, H1, Hs, Hd⟩
    sl_exec
    sl_step
    sl_close

/-- The pieces of slab `k`. -/
abbrev pieces7 (Xs : BufTy.Contents (Elt F) arg4.view.ty) (k : Fin k0_t7_loop.trips) : List (View.Piece (Elt F) S2x104x104x104 .f32) :=
  (trip7 c arg0 harg0 arg1 harg1 arg2 harg2 arg3 harg3 arg4 harg4 arg5 harg5 X0 X1 Xs k).1

/-- The third pass by its invariant: before slab `k` the buffer `arg5` holds its contents at entry under the pieces of
    the slabs before. -/
@[sl_loop] def pass7 (Xs : BufTy.Contents (Elt F) arg4.view.ty) (G : BufTy.Contents (Elt F) arg5.view.ty) :
    LoopInvTy_k0_t7 (F := F) Unit ℕ (UR sig nD τ) ℕ Variants.none c none Set.univ arg0 harg0 arg1 harg1 arg2 harg2 arg3 harg3 arg4 harg4 arg5 harg5 where
  inv k _ := iprop(at_ c arg0 X0 ∗ at_ c arg1 X1 ∗ at_ c arg4 Xs
    ∗ ∃ f, at_ c arg5 f ∗ ⌜f = arg5.view.writes (Elt F) G (laid (pieces7 c arg0 harg0 arg1 harg1 arg2 harg2 arg3 harg3 arg4 harg4 arg5 harg5 X0 X1 Xs) k)⌝)
  step k acc := by
    iintro ⟨H0, H1, Hs, ⟨%f, Hd, %hf⟩⟩
    iapply (wp_wand_r Idealize.ShloMosaic.frame (wpE (defs₀ (F := F)) Variants.none (c : Thread nD τ) none) Set.univ)
    isplitl [H0 H1 Hs Hd]
    · iapply ((trip7 c arg0 harg0 arg1 harg1 arg2 harg2 arg3 harg3 arg4 harg4 arg5 harg5 X0 X1 Xs k).2 f)
      isplitl [H0]; · iexact H0
      isplitl [H1]; · iexact H1
      isplitl [Hs]; · iexact Hs
      iexact Hd
    · iintro %_ ⟨H0, H1, Hs, Hd⟩
      isplitl [H0]; · iexact H0
      isplitl [H1]; · iexact H1
      isplitl [Hs]; · iexact Hs
      rw [laid_succ]
      iexists _; isplitl [Hd]; · iexact Hd
      ipureintro; rw [hf, ← View.writes_append]

/-! ## The fourth pass, to the two results -/

/-- Slab `k` of the fourth pass: it reads the input, the weights and `arg5`, and lays one piece over either result. -/
def trip9 (Xs : BufTy.Contents (Elt F) arg5.view.ty) (k : Fin k0_t9_loop.trips) :
    { L : List (View.Piece (Elt F) S96x96x96 .f32) × List (View.Piece (Elt F) S96x96x96 .f32) // ∀ (f : BufTy.Contents (Elt F) arg2.view.ty) (g : BufTy.Contents (Elt F) arg3.view.ty),
      (iprop(at_ c arg0 X0 ∗ at_ c arg1 X1 ∗ at_ c arg5 Xs ∗ at_ c arg2 f ∗ at_ c arg3 g) : sProp 𝕄)
      ⊢ wp frame (wpE (defs₀ (F := F)) Variants.none (c : Thread nD τ) none) Set.univ (k0_t9_body (F := F) arg0 harg0 arg1 harg1 arg2 harg2 arg3 harg3 arg4 harg4 arg5 harg5 k ())
        (fun _ => iprop(at_ c arg0 X0 ∗ at_ c arg1 X1 ∗ at_ c arg5 Xs ∗ at_ c arg2 (arg2.view.writes (Elt F) f L.1) ∗ at_ c arg3 (arg3.view.writes (Elt F) g L.2))) } := by
  have hk : k.val < 12 := Nat.lt_of_lt_of_le k.isLt k0_t9_abs.2.1
  refine ⟨(?_, ?_), fun f g => ?run⟩
  case run =>
    unfold k0_t9_body
    iintro ⟨H0, H1, Hs, Hd, He⟩
    sl_exec
    sl_step
    sl_close

/-- The pieces of slab `k`, one list for either result. -/
abbrev pieces9 (Xs : BufTy.Contents (Elt F) arg5.view.ty) (k : Fin k0_t9_loop.trips) : List (View.Piece (Elt F) S96x96x96 .f32) × List (View.Piece (Elt F) S96x96x96 .f32) :=
  (trip9 c arg0 harg0 arg1 harg1 arg2 harg2 arg3 harg3 arg4 harg4 arg5 harg5 X0 X1 Xs k).1

/-- The fourth pass by its invariant. -/
@[sl_loop] def pass9 (Xs : BufTy.Contents (Elt F) arg5.view.ty) (G : BufTy.Contents (Elt F) arg2.view.ty) (G' : BufTy.Contents (Elt F) arg3.view.ty) :
    LoopInvTy_k0_t9 (F := F) Unit ℕ (UR sig nD τ) ℕ Variants.none c none Set.univ arg0 harg0 arg1 harg1 arg2 harg2 arg3 harg3 arg4 harg4 arg5 harg5 where
  inv k _ := iprop(at_ c arg0 X0 ∗ at_ c arg1 X1 ∗ at_ c arg5 Xs
    ∗ (∃ f, at_ c arg2 f ∗ ⌜f = arg2.view.writes (Elt F) G (laid (fun k => (pieces9 c arg0 harg0 arg1 harg1 arg2 harg2 arg3 harg3 arg4 harg4 arg5 harg5 X0 X1 Xs k).1) k)⌝)
    ∗ (∃ f, at_ c arg3 f ∗ ⌜f = arg3.view.writes (Elt F) G' (laid (fun k => (pieces9 c arg0 harg0 arg1 harg1 arg2 harg2 arg3 harg3 arg4 harg4 arg5 harg5 X0 X1 Xs k).2) k)⌝))
  step k acc := by
    iintro ⟨H0, H1, Hs, ⟨%f, Hd, %hf⟩, ⟨%g, He, %hg⟩⟩
    iapply (wp_wand_r Idealize.ShloMosaic.frame (wpE (defs₀ (F := F)) Variants.none (c : Thread nD τ) none) Set.univ)
    isplitl [H0 H1 Hs Hd He]
    · iapply ((trip9 c arg0 harg0 arg1 harg1 arg2 harg2 arg3 harg3 arg4 harg4 arg5 harg5 X0 X1 Xs k).2 f g)
      isplitl [H0]; · iexact H0
      isplitl [H1]; · iexact H1
      isplitl [Hs]; · iexact Hs
      isplitl [Hd]; · iexact Hd
      iexact He
    · iintro %_ ⟨H0, H1, Hs, Hd, He⟩
      isplitl [H0]; · iexact H0
      isplitl [H1]; · iexact H1
      isplitl [Hs]; · iexact Hs
      rw [laid_succ, laid_succ]
      isplitl [Hd]
      · iexists _; isplitl [Hd]; · iexact Hd
        ipureintro; rw [hf, ← View.writes_append]
      · iexists _; isplitl [He]; · iexact He
        ipureintro; rw [hg, ← View.writes_append]

/-! ## The whole kernel -/

/-- The kernel from any contents: the input and the weights end as they were, the results hold the run's value, the
    scratch volumes hold something. -/
def body (f2 : BufTy.Contents (Elt F) arg2.view.ty) (f3 : BufTy.Contents (Elt F) arg3.view.ty) (f4 : BufTy.Contents (Elt F) arg4.view.ty) (f5 : BufTy.Contents (Elt F) arg5.view.ty) :
    { R : BufTy.Contents (Elt F) arg2.view.ty × BufTy.Contents (Elt F) arg3.view.ty //
      (iprop(at_ c arg0 X0 ∗ at_ c arg1 X1 ∗ at_ c arg2 f2 ∗ at_ c arg3 f3 ∗ at_ c arg4 f4 ∗ at_ c arg5 f5) : sProp 𝕄)
      ⊢ wp frame (wpE (defs₀ (F := F)) Variants.none (c : Thread nD τ) none) Set.univ (cc0__encoder_kernel (F := F) arg0 harg0 arg1 harg1 arg2 harg2 arg3 harg3 arg4 harg4 arg5 harg5)
        (fun _ => iprop(at_ c arg0 X0 ∗ at_ c arg1 X1 ∗ at_ c arg2 R.1 ∗ at_ c arg3 R.2 ∗ (∃ f, at_ c arg4 f) ∗ (∃ f, at_ c arg5 f))) } := by
  refine ⟨(?_, ?_), ?run⟩
  case run =>
    rw [cc0__encoder_kernel_eq_skeleton]
    unfold cc0__encoder_kernel_skel
    iintro ⟨H0, H1, H2, H3, H4, H5⟩
    sl_exec
    sl_step
    sl_close

end Cert.Proof.Enc

end
-- ==== Proof.Volume.lean ====
module

public import proofs.«01_k».proof.Proof.Body
public import Idealize.ShloMosaic.Lib.Writes
public import Idealize.ShloMosaic.Lib.WholeRead
public import Idealize.ShloMosaic.Lib.Pointwise

/-!
What the scratch volumes and the results hold, as functions of their coordinates.

A scratch volume has two channels of 104 planes of 104 by 104 words.  The kernel keeps the 96 by 96 by 96 words in the
planes 4 to 99 and the rows and columns 0 to 95, and everything outside them stays zero.  This file reads each stored
volume at any place, at arbitrary float values; since the readings do not mention what the buffers held before the kernel
began, neither do the results.
-/

@[expose] public section

set_option maxRecDepth 16384

noncomputable section

namespace Cert.Proof.Enc

open Cert.KernelIdeal Cert.KernelIdeal.Gen
open Idealize.ShloMosaic Idealize.ShloMosaic.TcCoe

variable {F : FTy → Type} [FloatOps F]

/-! ## Lists of pieces -/

/-- A member of the lists laid by the first `m` trips is a member of one trip's list. -/
theorem mem_laid {P : Type} {n : ℕ} {L : Fin n → List P} {p : P} : ∀ {m : ℕ}, p ∈ laid L m → ∃ k : Fin n, p ∈ L k
  | 0, h => absurd h List.not_mem_nil
  | m + 1, h => by
    rw [laid, List.mem_append] at h
    rcases h with h | h
    · by_cases hm : m < n
      · rw [dif_pos hm] at h; exact ⟨⟨m, hm⟩, h⟩
      · rw [dif_neg hm] at h; exact absurd h List.not_mem_nil
    · exact mem_laid h

/-- A member of trip `k`'s list is laid once trip `k` has run. -/
theorem laid_mem {P : Type} {n : ℕ} {L : Fin n → List P} {p : P} (k : Fin n) (hp : p ∈ L k) :
    ∀ {m : ℕ}, k.val < m → p ∈ laid L m
  | 0, h => absurd h (Nat.not_lt_zero _)
  | m + 1, h => by
    rw [laid, List.mem_append]
    by_cases e : k.val = m
    · left; subst e; rw [dif_pos k.isLt]; exact hp
    · right; exact laid_mem k hp (by omega)

/-- Two stacks of pieces, the upper in front: where no upper piece lies the lower stack is read. -/
theorem read_under {sp : Space} {s : Shape} (a : Memref sig .tc sp s .f32) (f : BufTy.Contents (Elt F) a.view.ty)
    (L L0 : List (View.Piece (Elt F) s .f32)) (y : s.Idx) (h : ∀ p ∈ L, y ∉ p.1.set) :
    a.view.read (Elt F) (a.view.writes (Elt F) f (L ++ L0)) y = a.view.read (Elt F) (a.view.writes (Elt F) f L0) y := by
  rw [View.writes_append]
  exact View.read_writes_apply_of_forall_not_mem _ _ y L h

/-- Where an upper piece lies, and every upper piece stores the values of `G`, `G` is read. -/
theorem read_over {sp : Space} {s : Shape} (a : Memref sig .tc sp s .f32) (f : BufTy.Contents (Elt F) a.view.ty)
    (L L0 : List (View.Piece (Elt F) s .f32)) (G : s.Idx → Elt F .f32) (hG : ∀ p ∈ L, ∀ x : p.1.shape.Idx, p.2 x = G (p.1.emb x))
    (y : s.Idx) (h : ∃ p ∈ L, y ∈ p.1.set) :
    a.view.read (Elt F) (a.view.writes (Elt F) f (L ++ L0)) y = G y := by
  rw [View.writes_append]
  exact View.read_writes_apply_of_pieces _ _ G L hG y h

/-! ## The places of a volume -/

/-- The float zero the kernel stores. -/
def zero32 : Elt F .f32 := (Scalar.ofBits .f32 0x00000000#32 : F .f32)

/-- The place lies inside the volume's margin. -/
def inner (y : S2x104x104x104.Idx) : Prop := 4 ≤ (y 1).val ∧ (y 1).val < 100 ∧ (y 2).val < 96 ∧ (y 3).val < 96

/-- Whether a place is inside the margin can be decided, by comparing its coordinates. -/
instance (y : S2x104x104x104.Idx) : Decidable (inner y) := by unfold inner; infer_instance

/-- The slab a plane lies in. -/
def slabOf (y : S2x104x104x104.Idx) : Fin 12 := ⟨((y 1).val - 4) / 8 % 12, Nat.mod_lt _ (by decide)⟩

/-- The place inside the slab's stored piece. -/
def inSlab (y : S2x104x104x104.Idx) : S1x8x96x96.Idx :=
  ix4 (0 : Fin 1) (⟨((y 1).val - 4) % 8, Nat.mod_lt _ (by decide)⟩ : Fin 8)
    (⟨(y 2).val % 96, Nat.mod_lt _ (by decide)⟩ : Fin 96) (⟨(y 3).val % 96, Nat.mod_lt _ (by decide)⟩ : Fin 96)

/-- The volume whose inside is stored slab by slab, channel by channel, and whose margin is zero. -/
def volume (P : Fin 2 → Fin 12 → S1x8x96x96.Idx → Elt F .f32) (y : S2x104x104x104.Idx) : Elt F .f32 :=
  if inner y then P (y 0) (slabOf y) (inSlab y) else zero32

/-- A rectangle of one channel and eight planes at slab `k` holds exactly the inner places of that channel and slab. -/
theorem mem_slab {off : Fin 4 → ℕ} (ch k : ℕ) (e : off = ![ch, 8 * k + 4, 0, 0]) (h : ∀ i, off i + S1x8x96x96.size i ≤ S2x104x104x104.size i)
    (y : S2x104x104x104.Idx) :
    y ∈ (Rect.unit (s := S2x104x104x104) off S1x8x96x96.size h).set
      ↔ (y 0).val = ch ∧ 8 * k + 4 ≤ (y 1).val ∧ (y 1).val < 8 * k + 12 ∧ (y 2).val < 96 ∧ (y 3).val < 96 := by
  subst e
  rw [Rect.mem_set_unit]
  constructor
  · intro H
    have h0 := H 0; have h1 := H 1; have h2 := H 2; have h3 := H 3
    simp at h0 h1 h2 h3
    omega
  · rintro ⟨a0, a1, a2, a3, a4⟩ i
    fin_cases i
    · simp; omega
    · simp; omega
    · simp; omega
    · simp; omega

/-- The stored piece of channel `ch`, slab `k`, at its own place `x`: the volume has that value where the piece puts it. -/
theorem volume_emb (P : Fin 2 → Fin 12 → S1x8x96x96.Idx → Elt F .f32) {off : Fin 4 → ℕ} (ch : Fin 2) (k : Fin 12)
    (e : off = ![ch.val, 8 * k.val + 4, 0, 0]) (h : ∀ i, off i + S1x8x96x96.size i ≤ S2x104x104x104.size i) (x : S1x8x96x96.Idx) :
    P ch k x = volume P ((Rect.unit (s := S2x104x104x104) off S1x8x96x96.size h).emb x) := by
  subst e
  have hx0 : (x 0).val < 1 := (x 0).isLt
  have hx1 : (x 1).val < 8 := (x 1).isLt
  have hx2 : (x 2).val < 96 := (x 2).isLt
  have hx3 : (x 3).val < 96 := (x 3).isLt
  have hk := k.isLt
  generalize hy : (Rect.unit (s := S2x104x104x104) ![ch.val, 8 * k.val + 4, 0, 0] S1x8x96x96.size h).emb x = y
  have e0 : (y 0).val = ch.val := by rw [← hy, Rect.emb_apply]; simp; omega
  have e1 : (y 1).val = 8 * k.val + 4 + (x 1).val := by rw [← hy, Rect.emb_apply]; simp
  have e2 : (y 2).val = (x 2).val := by rw [← hy, Rect.emb_apply]; simp
  have e3 : (y 3).val = (x 3).val := by rw [← hy, Rect.emb_apply]; simp
  have hin : inner y := by unfold inner; omega
  have s0 : (y 0 : Fin 2) = ch := Fin.ext e0
  have s1 : slabOf y = k := Fin.ext (by show ((y 1).val - 4) / 8 % 12 = k.val; omega)
  have s2 : inSlab y = x := by
    funext i
    fin_cases i
    · exact Fin.ext (by show 0 = (x 0).val; omega)
    · exact Fin.ext (by show ((y 1).val - 4) % 8 = (x 1).val; omega)
    · exact Fin.ext (by show (y 2).val % 96 = (x 2).val; omega)
    · exact Fin.ext (by show (y 3).val % 96 = (x 3).val; omega)
  unfold volume
  rw [if_pos hin, s0, s1, s2]

/-- The two pieces of slab `k`: channel 1 in front of channel 0. -/
def IsSlab (P : Fin 2 → Fin 12 → S1x8x96x96.Idx → Elt F .f32) (k : Fin 12) (L : List (View.Piece (Elt F) S2x104x104x104 .f32)) : Prop :=
  ∃ (o1 o0 : Fin 4 → ℕ) (h1 : ∀ i, o1 i + S1x8x96x96.size i ≤ S2x104x104x104.size i) (h0 : ∀ i, o0 i + S1x8x96x96.size i ≤ S2x104x104x104.size i),
    o1 = ![1, 8 * k.val + 4, 0, 0] ∧ o0 = ![0, 8 * k.val + 4, 0, 0] ∧
    L = [⟨Rect.unit (s := S2x104x104x104) o1 S1x8x96x96.size h1, P 1 k⟩, ⟨Rect.unit (s := S2x104x104x104) o0 S1x8x96x96.size h0, P 0 k⟩]

/-- Twelve slabs laid over a volume whose margin is zero: the volume they make up. -/
theorem read_slabs (a : Memref sig .tc .vmem S2x104x104x104 .f32) (f : BufTy.Contents (Elt F) a.view.ty)
    (L : Fin 12 → List (View.Piece (Elt F) S2x104x104x104 .f32)) (L0 : List (View.Piece (Elt F) S2x104x104x104 .f32))
    (P : Fin 2 → Fin 12 → S1x8x96x96.Idx → Elt F .f32) (hL : ∀ k, IsSlab P k (L k))
    (h0 : ∀ y, ¬ inner y → a.view.read (Elt F) (a.view.writes (Elt F) f L0) y = zero32) :
    a.view.read (Elt F) (a.view.writes (Elt F) f (laid L 12 ++ L0)) = volume P := by
  funext y
  have y0 : (y 0).val < 2 := (y 0).isLt
  by_cases hin : inner y
  · refine read_over a f _ _ (volume P) ?_ y ?_
    · intro p hp
      obtain ⟨k, hk⟩ := mem_laid hp
      obtain ⟨o1, o0, h1, h0', e1, e0, hLk⟩ := hL k
      rw [hLk] at hk
      rcases List.mem_cons.1 hk with rfl | hk
      · exact fun x => volume_emb P 1 k e1 h1 x
      · obtain rfl := List.mem_singleton.1 hk
        exact fun x => volume_emb P 0 k e0 h0' x
    · have hin' := hin
      unfold inner at hin'
      have hk : ((y 1).val - 4) / 8 < 12 := by omega
      obtain ⟨o1, o0, h1, h0', e1, e0, hLk⟩ := hL ⟨((y 1).val - 4) / 8, hk⟩
      by_cases hc : (y 0).val = 0
      · refine ⟨_, laid_mem ⟨((y 1).val - 4) / 8, hk⟩ (by rw [hLk]; exact List.mem_cons_of_mem _ (List.mem_singleton.2 rfl)) hk, ?_⟩
        refine (mem_slab 0 _ e0 h0' y).2 ?_
        dsimp only
        omega
      · refine ⟨_, laid_mem ⟨((y 1).val - 4) / 8, hk⟩ (by rw [hLk]; exact List.mem_cons_self) hk, ?_⟩
        refine (mem_slab 1 _ e1 h1 y).2 ?_
        dsimp only
        omega
  · rw [read_under, h0 y hin]
    · unfold volume; rw [if_neg hin]
    · intro p hp
      obtain ⟨k, hk⟩ := mem_laid hp
      have hk12 := k.isLt
      obtain ⟨o1, o0, h1, h0', e1, e0, hLk⟩ := hL k
      rw [hLk] at hk
      unfold inner at hin
      rcases List.mem_cons.1 hk with rfl | hk
      · intro hm
        have := (mem_slab 1 _ e1 h1 y).1 hm
        omega
      · obtain rfl := List.mem_singleton.1 hk
        intro hm
        have := (mem_slab 0 _ e0 h0' y).1 hm
        omega

/-- Twelve slabs of eight planes laid over a result: each place reads its slab's payload. -/
theorem read_planes (a : Memref sig .tc .vmem S96x96x96 .f32) (f : BufTy.Contents (Elt F) a.view.ty)
    (L : Fin 12 → List (View.Piece (Elt F) S96x96x96 .f32)) (P : Fin 12 → S8x96x96.Idx → Elt F .f32)
    (hL : ∀ k, ∃ (o : Fin 3 → ℕ) (h : ∀ i, o i + S8x96x96.size i ≤ S96x96x96.size i), o = ![8 * k.val, 0, 0] ∧
      L k = [⟨Rect.unit (s := S96x96x96) o S8x96x96.size h, P k⟩]) (y : S96x96x96.Idx) :
    a.view.read (Elt F) (a.view.writes (Elt F) f (laid L 12)) y
      = P ⟨(y 0).val / 8 % 12, Nat.mod_lt _ (by decide)⟩
          (ix3 (⟨(y 0).val % 8, Nat.mod_lt _ (by decide)⟩ : Fin 8) (y 1 : Fin 96) (y 2 : Fin 96)) := by
  have y0 : (y 0).val < 96 := (y 0).isLt
  have y1 : (y 1).val < 96 := (y 1).isLt
  have y2 : (y 2).val < 96 := (y 2).isLt
  refine View.read_writes_apply_of_pieces _ _ (fun y : S96x96x96.Idx => P ⟨(y 0).val / 8 % 12, Nat.mod_lt _ (by decide)⟩
          (ix3 (⟨(y 0).val % 8, Nat.mod_lt _ (by decide)⟩ : Fin 8) (y 1 : Fin 96) (y 2 : Fin 96))) _ ?_ y ?_
  · intro p hp
    obtain ⟨k, hk⟩ := mem_laid hp
    obtain ⟨o, h, rfl, hLk⟩ := hL k
    rw [hLk] at hk
    obtain rfl := List.mem_singleton.1 hk
    intro x
    change S8x96x96.Idx at x
    have hx0 : (x 0).val < 8 := (x 0).isLt
    have hk := k.isLt
    generalize hz : (Rect.unit (s := S96x96x96) ![8 * k.val, 0, 0] S8x96x96.size h).emb x = z
    have e0 : (z 0).val = 8 * k.val + (x 0).val := by rw [← hz, Rect.emb_apply]; simp
    have e1 : (z 1).val = (x 1).val := by rw [← hz, Rect.emb_apply]; simp
    have e2 : (z 2).val = (x 2).val := by rw [← hz, Rect.emb_apply]; simp
    show P k x = P _ _
    congr 1
    · exact Fin.ext (by show k.val = (z 0).val / 8 % 12; omega)
    · funext i
      fin_cases i
      · exact Fin.ext (by show (x 0).val = (z 0).val % 8; omega)
      · exact Fin.ext e1.symm
      · exact Fin.ext e2.symm
  · have hk : (y 0).val / 8 < 12 := by omega
    obtain ⟨o, h, rfl, hLk⟩ := hL ⟨(y 0).val / 8, hk⟩
    refine ⟨_, laid_mem ⟨(y 0).val / 8, hk⟩ (by rw [hLk]; exact List.mem_singleton.2 rfl) hk, ?_⟩
    refine (Rect.mem_set_unit (inb := h)).2 fun i => ?_
    fin_cases i
    · simp; omega
    · simp; omega
    · simp; omega

end Cert.Proof.Enc

end
-- ==== Proof.Taps.lean ====
module

public import proofs.«01_k».proof.Proof.Gen.KernelIdeal.Loops

/-!
What one trip of a depth-tap loop yields.

The trip adds to either accumulator, for every input channel, the nine products of a weight with the channel's slab
shifted in the plane by rotation.  `nine` is that sum of nine, in the order the kernel adds them; the four equations say
that the trip the loops' module ran yields it, once per input channel.
-/

@[expose] public section

set_option maxRecDepth 16384

noncomputable section

namespace Cert.Proof.Enc

open Cert.KernelIdeal Cert.KernelIdeal.Gen
open Idealize.ShloMosaic Idealize.ShloMosaic.TcCoe

variable {F : FTy → Type} [FloatOps F]

/-- The slab rotated along its rows for tap `a` of dilation `dil`: by `dil` forward, not at all, by `dil` back. -/
def rollH (dil : ℕ) (x : FVec F S8x104x104 .f32) : Fin 3 → FVec F S8x104x104 .f32
  | 0 => dynamicRotate 1 (BitVec.ofNat 32 dil) none x Facts₀.rotates_S8x104x104_d1
  | 1 => x
  | 2 => dynamicRotate 1 (BitVec.ofNat 32 (104 - dil)) none x Facts₀.rotates_S8x104x104_d1

/-- The same along its columns. -/
def rollW (dil : ℕ) (x : FVec F S8x104x104 .f32) : Fin 3 → FVec F S8x104x104 .f32
  | 0 => dynamicRotate 2 (BitVec.ofNat 32 dil) none x Facts₀.rotates_S8x104x104_d2
  | 1 => x
  | 2 => dynamicRotate 2 (BitVec.ofNat 32 (104 - dil)) none x Facts₀.rotates_S8x104x104_d2

/-- One product: the weight of tap `(a, b)` times the slab rotated for it. -/
def tapProd (dil : ℕ) (x : FVec F S8x104x104 .f32) (w : Fin 3 → Fin 3 → Elt F .f32) (a b : Fin 3) : FVec F S8x104x104 .f32 :=
  mulf (broadcast S8x104x104 (w a b)) (rollW dil (rollH dil x a) b)

/-- The accumulator after the nine taps of one slab. -/
def nine (dil : ℕ) (x : FVec F S8x104x104 .f32) (w : Fin 3 → Fin 3 → Elt F .f32) (acc : FVec F S8x104x104 .f32) : FVec F S8x104x104 .f32 :=
  addf (addf (addf (addf (addf (addf (addf (addf (addf acc (tapProd dil x w 0 0)) (tapProd dil x w 0 1)) (tapProd dil x w 0 2))
    (tapProd dil x w 1 0)) (tapProd dil x w 1 1)) (tapProd dil x w 1 2)) (tapProd dil x w 2 0)) (tapProd dil x w 2 1)) (tapProd dil x w 2 2)

/-- The slab of eight planes of a scratch volume at offsets `off`, its unit axis dropped. -/
def slab (a : Memref sig .tc .vmem S2x104x104x104 .f32) (X : BufTy.Contents (Elt F) a.view.ty) (off : Fin 4 → ℕ)
    (h : ∀ i, off i + S1x8x104x104.size i ≤ S2x104x104x104.size i) : FVec F S8x104x104 .f32 :=
  shapeCast S8x104x104 (View.readAt (Elt F) a.view (Rect.unit (s := S2x104x104x104) off S1x8x104x104.size h).toLoadRect X)
    Facts₀.shapeCasts_S1x8x104x104_S8x104x104

/-- The weight word at offset `off`. -/
def wordAt (a : Memref sig .tc .smem S382 .f32) (X : BufTy.Contents (Elt F) a.view.ty) (off : Fin 1 → ℕ)
    (h : ∀ i, off i + S1.size i ≤ S382.size i) : Elt F .f32 :=
  View.readAt (Elt F) a.view (Rect.unit (s := S382) off S1.size h).toLoadRect X (Shape.Idx.first (by show 0 < S1.numel; rw [Facts₀.numel1_S1]; exact Nat.one_pos))

variable (c : Dev nD) (arg0 : Memref sig .tc .vmem S96x96x96 .f32) (harg0 : arg0.IsWhole) (arg1 : Memref sig .tc .smem S382 .f32) (harg1 : arg1.IsWhole) (arg2 : Memref sig .tc .vmem S96x96x96 .f32) (harg2 : arg2.IsWhole) (arg3 : Memref sig .tc .vmem S96x96x96 .f32) (harg3 : arg3.IsWhole) (arg4 : Memref sig .tc .vmem S2x104x104x104 .f32) (harg4 : arg4.IsWhole) (arg5 : Memref sig .tc .vmem S2x104x104x104 .f32) (harg5 : arg5.IsWhole)
variable (X1 : BufTy.Contents (Elt F) arg1.view.ty)

/-- The weights of the first pass at depth tap `k`: row `r` is the pair of an output and an input channel. -/
def weights4 (k : Fin k0_t4_loop.trips) (r : Fin 2) (a b : Fin 3) : Elt F .f32 :=
  wordAt arg1 X1 (k0_off6 k (BitVec.ofNat 32 (27 * r.val)) (BitVec.ofNat 32 (3 * a.val)) (BitVec.ofNat 32 b.val)) (k0_off6_inb k r a b)

/-- Depth tap `k` of slab `s` of the first pass. -/
theorem tripR4_eq (Xs : BufTy.Contents (Elt F) arg4.view.ty) (s : Fin k0_t3_loop.trips) (v6 : BitVec 32) (k : Fin k0_t4_loop.trips)
    (acc : FVec F S8x104x104 .f32 × FVec F S8x104x104 .f32) :
    tripR_k0_t4 Variants.none c none arg0 harg0 arg1 harg1 arg2 harg2 arg3 harg3 arg4 harg4 arg5 harg5 s v6 X1 Xs k acc
      = (nine 1 (slab arg4 Xs (k0_off5 s k) (k0_off5_inb s k)) (weights4 arg1 X1 k 0) acc.1, nine 1 (slab arg4 Xs (k0_off5 s k) (k0_off5_inb s k)) (weights4 arg1 X1 k 1) acc.2) := by
  unfold tripR_k0_t4 trip_k0_t4
  rfl

/-- The weights of the second pass at depth tap `k`: row `r` is the pair of an output and an input channel. -/
def weights6 (k : Fin k0_t6_loop.trips) (r : Fin 4) (a b : Fin 3) : Elt F .f32 :=
  wordAt arg1 X1 (k0_off11 k (BitVec.ofNat 32 (54 + 27 * r.val)) (BitVec.ofNat 32 (3 * a.val)) (BitVec.ofNat 32 b.val)) (k0_off11_inb k r a b)

/-- Depth tap `k` of slab `s` of the second pass. -/
theorem tripR6_eq (Xs : BufTy.Contents (Elt F) arg5.view.ty) (s : Fin k0_t5_loop.trips) (v6 : BitVec 32) (k : Fin k0_t6_loop.trips)
    (acc : FVec F S8x104x104 .f32 × FVec F S8x104x104 .f32) :
    tripR_k0_t6 Variants.none c none arg0 harg0 arg1 harg1 arg2 harg2 arg3 harg3 arg4 harg4 arg5 harg5 s v6 X1 Xs k acc
      = (nine 2 (slab arg5 Xs (k0_off12 s k) (k0_off12_inb s k)) (weights6 arg1 X1 k 1) (nine 2 (slab arg5 Xs (k0_off10 s k) (k0_off10_inb s k)) (weights6 arg1 X1 k 0) acc.1),
        nine 2 (slab arg5 Xs (k0_off12 s k) (k0_off12_inb s k)) (weights6 arg1 X1 k 3) (nine 2 (slab arg5 Xs (k0_off10 s k) (k0_off10_inb s k)) (weights6 arg1 X1 k 2) acc.2)) := by
  unfold tripR_k0_t6 trip_k0_t6
  rfl

/-- The weights of the third pass at depth tap `k`: row `r` is the pair of an output and an input channel. -/
def weights8 (k : Fin k0_t8_loop.trips) (r : Fin 4) (a b : Fin 3) : Elt F .f32 :=
  wordAt arg1 X1 (k0_off17 k (BitVec.ofNat 32 (162 + 27 * r.val)) (BitVec.ofNat 32 (3 * a.val)) (BitVec.ofNat 32 b.val)) (k0_off17_inb k r a b)

/-- Depth tap `k` of slab `s` of the third pass. -/
theorem tripR8_eq (Xs : BufTy.Contents (Elt F) arg4.view.ty) (s : Fin k0_t7_loop.trips) (v6 : BitVec 32) (k : Fin k0_t8_loop.trips)
    (acc : FVec F S8x104x104 .f32 × FVec F S8x104x104 .f32) :
    tripR_k0_t8 Variants.none c none arg0 harg0 arg1 harg1 arg2 harg2 arg3 harg3 arg4 harg4 arg5 harg5 s v6 X1 Xs k acc
      = (nine 4 (slab arg4 Xs (k0_off18 s k) (k0_off18_inb s k)) (weights8 arg1 X1 k 1) (nine 4 (slab arg4 Xs (k0_off16 s k) (k0_off16_inb s k)) (weights8 arg1 X1 k 0) acc.1),
        nine 4 (slab arg4 Xs (k0_off18 s k) (k0_off18_inb s k)) (weights8 arg1 X1 k 3) (nine 4 (slab arg4 Xs (k0_off16 s k) (k0_off16_inb s k)) (weights8 arg1 X1 k 2) acc.2)) := by
  unfold tripR_k0_t8 trip_k0_t8
  rfl

/-- The weights of the fourth pass at depth tap `k`: row `r` is the pair of an output and an input channel. -/
def weights10 (k : Fin k0_t10_loop.trips) (r : Fin 4) (a b : Fin 3) : Elt F .f32 :=
  wordAt arg1 X1 (k0_off23 k (BitVec.ofNat 32 (270 + 27 * r.val)) (BitVec.ofNat 32 (3 * a.val)) (BitVec.ofNat 32 b.val)) (k0_off23_inb k r a b)

/-- Depth tap `k` of slab `s` of the fourth pass. -/
theorem tripR10_eq (Xs : BufTy.Contents (Elt F) arg5.view.ty) (s : Fin k0_t9_loop.trips) (v6 : BitVec 32) (k : Fin k0_t10_loop.trips)
    (acc : FVec F S8x104x104 .f32 × FVec F S8x104x104 .f32) :
    tripR_k0_t10 Variants.none c none arg0 harg0 arg1 harg1 arg2 harg2 arg3 harg3 arg4 harg4 arg5 harg5 (0#32) (1#32) s v6 X1 Xs k acc
      = (nine 2 (slab arg5 Xs (k0_off24 s k) (k0_off24_inb s k)) (weights10 arg1 X1 k 1) (nine 2 (slab arg5 Xs (k0_off22 s k) (k0_off22_inb s k)) (weights10 arg1 X1 k 0) acc.1),
        nine 2 (slab arg5 Xs (k0_off24 s k) (k0_off24_inb s k)) (weights10 arg1 X1 k 3) (nine 2 (slab arg5 Xs (k0_off22 s k) (k0_off22_inb s k)) (weights10 arg1 X1 k 2) acc.2)) := by
  unfold tripR_k0_t10 trip_k0_t10
  rfl

end Cert.Proof.Enc

end
-- ==== Proof.Spec.lean ====
module

public import proofs.«01_k».proof.Proof.Volume
public import proofs.«01_k».proof.Proof.Taps

/-!
The kernel as functions of its two arguments: the voxels `D` and the flat weights `W`.

Pass by pass: the three depth taps of a slab, the volume the pass stores, and the two results.  Nothing here mentions a
buffer.
-/

@[expose] public section

set_option maxRecDepth 16384

noncomputable section

namespace Cert.Proof.Enc

open Cert.KernelIdeal Cert.KernelIdeal.Gen
open Idealize.ShloMosaic Idealize.ShloMosaic.TcCoe

variable {F : FTy → Type} [FloatOps F]

/-- The eight planes of the voxels at slab `k`. -/
def planes (D : S96x96x96.Idx → Elt F .f32) (k : Fin 12) : Vec F S8x96x96 .f32 := fun j =>
  D (ix3 (⟨(8 * k.val + (j 0).val) % 96, Nat.mod_lt _ (by decide)⟩ : Fin 96) (j 1 : Fin 96) (j 2 : Fin 96))

/-- The eight planes of channel `ch` of a volume from plane `p` on. -/
def slabAt (V : S2x104x104x104.Idx → Elt F .f32) (ch : Fin 2) (p : ℕ) : FVec F S8x104x104 .f32 := fun j =>
  V (ix4 ch (⟨(p + (j 0).val) % 104, Nat.mod_lt _ (by decide)⟩ : Fin 104) (j 1 : Fin 104) (j 2 : Fin 104))

/-- Word `n` of the flat weights. -/
def word (W : S382.Idx → Elt F .f32) (n : ℕ) : Elt F .f32 := W (ix1 (⟨n % 382, Nat.mod_lt _ (by decide)⟩ : Fin 382))

/-- The nine plane weights of depth tap `kd` of row `r` of the layer whose weights begin at `base`. -/
def tapWord (W : S382.Idx → Elt F .f32) (base r kd : ℕ) (a b : Fin 3) : Elt F .f32 :=
  word W (27 * r + 9 * kd + 3 * a.val + b.val + base)

/-- The two accumulators of a slab, one per output channel. -/
abbrev Acc (F : FTy → Type) [FloatOps F] : Type := FVec F S8x104x104 .f32 × FVec F S8x104x104 .f32

/-- A depth tap of the layer with one input channel. -/
def tap1 (dil base : ℕ) (W : S382.Idx → Elt F .f32) (V : S2x104x104x104.Idx → Elt F .f32) (k : Fin 12) (kd : ℕ) (acc : Acc F) : Acc F :=
  (nine dil (slabAt V 0 (8 * k.val + 4 + dil * kd - dil)) (tapWord W base 0 kd) acc.1,
   nine dil (slabAt V 0 (8 * k.val + 4 + dil * kd - dil)) (tapWord W base 1 kd) acc.2)

/-- A depth tap of a layer with two input channels. -/
def tap2 (dil base : ℕ) (W : S382.Idx → Elt F .f32) (V : S2x104x104x104.Idx → Elt F .f32) (k : Fin 12) (kd : ℕ) (acc : Acc F) : Acc F :=
  (nine dil (slabAt V 1 (8 * k.val + 4 + dil * kd - dil)) (tapWord W base 1 kd)
     (nine dil (slabAt V 0 (8 * k.val + 4 + dil * kd - dil)) (tapWord W base 0 kd) acc.1),
   nine dil (slabAt V 1 (8 * k.val + 4 + dil * kd - dil)) (tapWord W base 3 kd)
     (nine dil (slabAt V 0 (8 * k.val + 4 + dil * kd - dil)) (tapWord W base 2 kd) acc.2))

/-- The three depth taps from zero. -/
def taps (t : ℕ → Acc F → Acc F) : Acc F := t 2 (t 1 (t 0 (k0_pay7, k0_pay7)))

/-- What a pass stores, by channel and slab: the accumulator's inside, cut at zero and masked by the voxels. -/
def stored (acc : Fin 12 → Acc F) (D : S96x96x96.Idx → Elt F .f32) (ch : Fin 2) (k : Fin 12) : S1x8x96x96.Idx → Elt F .f32 :=
  match ch with
  | 0 => k0_pay12 (acc k).1 (planes D k)
  | 1 => k0_pay12 (acc k).2 (planes D k)

/-- The volume before the first pass: the voxels in channel 0, zero elsewhere. -/
def vol0 (D : S96x96x96.Idx → Elt F .f32) (y : S2x104x104x104.Idx) : Elt F .f32 :=
  if (y 0).val = 0 ∧ inner y then
    D (ix3 (⟨((y 1).val - 4) % 96, Nat.mod_lt _ (by decide)⟩ : Fin 96) (⟨(y 2).val % 96, Nat.mod_lt _ (by decide)⟩ : Fin 96)
      (⟨(y 3).val % 96, Nat.mod_lt _ (by decide)⟩ : Fin 96))
  else zero32

/-- The accumulators of the first pass, and the volume it stores. -/
def acc1 (D : S96x96x96.Idx → Elt F .f32) (W : S382.Idx → Elt F .f32) (k : Fin 12) : Acc F := taps (tap1 1 0 W (vol0 D) k)
/-- The volume after the first pass. -/
def vol1 (D : S96x96x96.Idx → Elt F .f32) (W : S382.Idx → Elt F .f32) : S2x104x104x104.Idx → Elt F .f32 := volume (stored (acc1 D W) D)
/-- The accumulators of the second pass. -/
def acc2 (D : S96x96x96.Idx → Elt F .f32) (W : S382.Idx → Elt F .f32) (k : Fin 12) : Acc F := taps (tap2 2 54 W (vol1 D W) k)
/-- The volume after the second pass. -/
def vol2 (D : S96x96x96.Idx → Elt F .f32) (W : S382.Idx → Elt F .f32) : S2x104x104x104.Idx → Elt F .f32 := volume (stored (acc2 D W) D)
/-- The accumulators of the third pass. -/
def acc3 (D : S96x96x96.Idx → Elt F .f32) (W : S382.Idx → Elt F .f32) (k : Fin 12) : Acc F := taps (tap2 4 162 W (vol2 D W) k)
/-- The volume after the third pass. -/
def vol3 (D : S96x96x96.Idx → Elt F .f32) (W : S382.Idx → Elt F .f32) : S2x104x104x104.Idx → Elt F .f32 := volume (stored (acc3 D W) D)
/-- The accumulators of the fourth pass. -/
def acc4 (D : S96x96x96.Idx → Elt F .f32) (W : S382.Idx → Elt F .f32) (k : Fin 12) : Acc F := taps (tap2 2 270 W (vol3 D W) k)

/-- Slab `k` of a result: the two last channels weighted by the words `n` and `n + 1`, through the sigmoid, masked. -/
def head (D : S96x96x96.Idx → Elt F .f32) (W : S382.Idx → Elt F .f32) (n : ℕ) (k : Fin 12) : S8x96x96.Idx → Elt F .f32 :=
  k0_pay146 (acc4 D W k).1 (acc4 D W k).2 (planes D k) (word W n) (word W (n + 1))

/-- A result: each voxel reads its slab. -/
def result (D : S96x96x96.Idx → Elt F .f32) (W : S382.Idx → Elt F .f32) (n : ℕ) (y : S96x96x96.Idx) : Elt F .f32 :=
  head D W n ⟨(y 0).val / 8 % 12, Nat.mod_lt _ (by decide)⟩
    (ix3 (⟨(y 0).val % 8, Nat.mod_lt _ (by decide)⟩ : Fin 8) (y 1 : Fin 96) (y 2 : Fin 96))

end Cert.Proof.Enc

end
-- ==== Proof.Stages.lean ====
module

public import proofs.«01_k».proof.Proof.Spec

/-!
The kernel's buffers hold what `Spec` says.

Each buffer's contents is read through the pieces the body laid over it, pass after pass; the results the body leaves are
`result` of the voxels and the weights, whatever the other buffers held before.
-/

@[expose] public section

set_option maxRecDepth 16384

noncomputable section

namespace Cert.Proof.Enc

open Cert.KernelIdeal Cert.KernelIdeal.Gen
open Idealize.ShloMosaic Idealize.ShloMosaic.TcCoe

variable {F : FTy → Type} [FloatOps F]

variable (c : Dev nD) (arg0 : Memref sig .tc .vmem S96x96x96 .f32) (harg0 : arg0.IsWhole) (arg1 : Memref sig .tc .smem S382 .f32) (harg1 : arg1.IsWhole) (arg2 : Memref sig .tc .vmem S96x96x96 .f32) (harg2 : arg2.IsWhole) (arg3 : Memref sig .tc .vmem S96x96x96 .f32) (harg3 : arg3.IsWhole) (arg4 : Memref sig .tc .vmem S2x104x104x104 .f32) (harg4 : arg4.IsWhole) (arg5 : Memref sig .tc .vmem S2x104x104x104 .f32) (harg5 : arg5.IsWhole)
variable (X0 : BufTy.Contents (Elt F) arg0.view.ty) (X1 : BufTy.Contents (Elt F) arg1.view.ty)

/-! ## Loads -/

/-- A load of eight planes of the voxels. -/
theorem load_planes {off : Fin 3 → ℕ} (k : Fin 12) (e : off = ![8 * k.val, 0, 0]) (h : ∀ i, off i + S8x96x96.size i ≤ S96x96x96.size i) :
    View.readAt (Elt F) arg0.view (Rect.unit (s := S96x96x96) off S8x96x96.size h).toLoadRect X0
      = planes (arg0.view.read (Elt F) X0) k := by
  subst e
  funext j
  change S8x96x96.Idx at j
  have hk := k.isLt
  have hj : (j 0).val < 8 := (j 0).isLt
  rw [View.readAt_apply]
  unfold planes
  congr 1
  funext i
  fin_cases i
  · exact Fin.ext (by show 8 * k.val + 1 * (j 0).val = (8 * k.val + (j 0).val) % 96; omega)
  · exact Fin.ext (by show 0 + 1 * (j 1).val = (j 1).val; omega)
  · exact Fin.ext (by show 0 + 1 * (j 2).val = (j 2).val; omega)

/-- A load of eight planes of one channel of a volume. -/
theorem load_slab (a : Memref sig .tc .vmem S2x104x104x104 .f32) (X : BufTy.Contents (Elt F) a.view.ty) {off : Fin 4 → ℕ} (ch : Fin 2) (p : ℕ)
    (e : off = ![ch.val, p, 0, 0]) (h : ∀ i, off i + S1x8x104x104.size i ≤ S2x104x104x104.size i) :
    slab a X off h = slabAt (a.view.read (Elt F) X) ch p := by
  subst e
  have hp : p + 8 ≤ 104 := h 1
  funext j
  change S8x104x104.Idx at j
  have hj : (j 0).val < 8 := (j 0).isLt
  unfold slab slabAt
  simp only [pointwise]
  rw [View.readAt_apply]
  congr 1
  funext i
  fin_cases i
  · exact Fin.ext (by show ch.val + 1 * 0 = ch.val; omega)
  · exact Fin.ext (by show p + 1 * (j 0).val = (p + (j 0).val) % 104; omega)
  · exact Fin.ext (by show 0 + 1 * (j 1).val = (j 1).val; omega)
  · exact Fin.ext (by show 0 + 1 * (j 2).val = (j 2).val; omega)

/-- A load of one weight word. -/
theorem load_word {off : Fin 1 → ℕ} (n : ℕ) (e : off = ![n]) (h : ∀ i, off i + S1.size i ≤ S382.size i) :
    wordAt arg1 X1 off h = word (arg1.view.read (Elt F) X1) n := by
  subst e
  have hn : n + 1 ≤ 382 := h 0
  unfold wordAt word
  rw [View.readAt_apply]
  congr 1
  funext i
  fin_cases i
  exact Fin.ext (by show n + 1 * 0 = n % 382; omega)

/-! ## The cleared volumes and the copied voxels -/

/-- The pieces that clear the two volumes, by plane. -/
theorem clear_eq : ∀ m : ℕ, m ≤ k0_t1_loop.trips →
    pb_k0_t1 (F := F) Variants.none c none arg0 harg0 arg1 harg1 arg2 harg2 arg3 harg3 arg4 harg4 arg5 harg5 m
      = (laid (fun k => (trip_k0_t1 (F := F) Variants.none c none arg0 harg0 arg1 harg1 arg2 harg2 arg3 harg3 arg4 harg4 arg5 harg5 k).1) m,
         laid (fun k => (trip_k0_t1 (F := F) Variants.none c none arg0 harg0 arg1 harg1 arg2 harg2 arg3 harg3 arg4 harg4 arg5 harg5 k).2.1) m)
  | 0, _ => rfl
  | m + 1, h => by
    have := pb_k0_t1_succ (F := F) Variants.none c none arg0 harg0 arg1 harg1 arg2 harg2 arg3 harg3 arg4 harg4 arg5 harg5 ⟨m, h⟩
    rw [this]
    show (_ ++ _, _ ++ _) = _
    rw [clear_eq m (by omega)]
    rw [laid_succ _ ⟨m, h⟩, laid_succ _ ⟨m, h⟩]

/-- The pieces that copy the voxels, by plane. -/
theorem copy_eq : ∀ m : ℕ, m ≤ k0_t2_loop.trips →
    pb_k0_t2 (F := F) Variants.none c none arg0 harg0 arg1 harg1 arg2 harg2 arg3 harg3 arg4 harg4 arg5 harg5 X0 m
      = laid (fun k => (trip_k0_t2 (F := F) Variants.none c none arg0 harg0 arg1 harg1 arg2 harg2 arg3 harg3 arg4 harg4 arg5 harg5 X0 k).1) m
  | 0, _ => rfl
  | m + 1, h => by
    have := pb_k0_t2_succ (F := F) Variants.none c none arg0 harg0 arg1 harg1 arg2 harg2 arg3 harg3 arg4 harg4 arg5 harg5 X0 ⟨m, h⟩
    rw [this]
    show _ ++ _ = _
    rw [copy_eq m (by omega), laid_succ _ ⟨m, h⟩]

/-- A volume under the pieces of the clearing loop reads zero everywhere. -/
theorem read_clear (a : Memref sig .tc .vmem S2x104x104x104 .f32) (f : BufTy.Contents (Elt F) a.view.ty)
    (L : Fin 104 → List (View.Piece (Elt F) S2x104x104x104 .f32))
    (hL : ∀ k, ∃ (o1 o0 : Fin 4 → ℕ) (h1 : ∀ i, o1 i + S1x1x104x104.size i ≤ S2x104x104x104.size i) (h0 : ∀ i, o0 i + S1x1x104x104.size i ≤ S2x104x104x104.size i),
      o1 = ![1, k.val, 0, 0] ∧ o0 = ![0, k.val, 0, 0] ∧
      L k = [⟨Rect.unit (s := S2x104x104x104) o1 S1x1x104x104.size h1, k0_pay2⟩, ⟨Rect.unit (s := S2x104x104x104) o0 S1x1x104x104.size h0, k0_pay2⟩])
    (y : S2x104x104x104.Idx) : a.view.read (Elt F) (a.view.writes (Elt F) f (laid L 104)) y = zero32 := by
  have y0 : (y 0).val < 2 := (y 0).isLt
  have y1 : (y 1).val < 104 := (y 1).isLt
  have y2 : (y 2).val < 104 := (y 2).isLt
  have y3 : (y 3).val < 104 := (y 3).isLt
  refine View.read_writes_apply_of_pieces _ _ (fun _ => zero32) _ ?_ y ?_
  · intro p hp
    obtain ⟨k, hk⟩ := mem_laid hp
    obtain ⟨o1, o0, h1, h0, e1, e0, hLk⟩ := hL k
    rw [hLk] at hk
    rcases List.mem_cons.1 hk with rfl | hk
    · exact fun x => rfl
    · obtain rfl := List.mem_singleton.1 hk
      exact fun x => rfl
  · obtain ⟨o1, o0, h1, h0, rfl, rfl, hLk⟩ := hL (y 1)
    by_cases hc : (y 0).val = 0
    · refine ⟨_, laid_mem (y 1 : Fin 104) (by rw [hLk]; exact List.mem_cons_of_mem _ (List.mem_singleton.2 rfl)) y1, ?_⟩
      refine (Rect.mem_set_unit (inb := h0)).2 fun i => ?_
      fin_cases i
      · simp; omega
      · simp
      · simp; omega
      · simp; omega
    · refine ⟨_, laid_mem (y 1 : Fin 104) (by rw [hLk]; exact List.mem_cons_self) y1, ?_⟩
      refine (Rect.mem_set_unit (inb := h1)).2 fun i => ?_
      fin_cases i
      · simp; omega
      · simp
      · simp; omega
      · simp; omega

/-- The lists the clearing loop lays over the first volume. -/
abbrev clearL4 : List (View.Piece (Elt F) S2x104x104x104 .f32) :=
  (pb_k0_t1 (F := F) Variants.none c none arg0 harg0 arg1 harg1 arg2 harg2 arg3 harg3 arg4 harg4 arg5 harg5 (Scf.trips k0_t1_loop.lb k0_t1_loop.ub k0_t1_loop.st)).1
/-- The lists the clearing loop lays over the second volume. -/
abbrev clearL5 : List (View.Piece (Elt F) S2x104x104x104 .f32) :=
  (pb_k0_t1 (F := F) Variants.none c none arg0 harg0 arg1 harg1 arg2 harg2 arg3 harg3 arg4 harg4 arg5 harg5 (Scf.trips k0_t1_loop.lb k0_t1_loop.ub k0_t1_loop.st)).2
/-- The lists the copying loop lays over the first volume. -/
abbrev copyL : List (View.Piece (Elt F) S2x104x104x104 .f32) :=
  pb_k0_t2 (F := F) Variants.none c none arg0 harg0 arg1 harg1 arg2 harg2 arg3 harg3 arg4 harg4 arg5 harg5 X0 (Scf.trips k0_t2_loop.lb k0_t2_loop.ub k0_t2_loop.st)

/-- The first volume, cleared. -/
theorem read_clear4 (f : BufTy.Contents (Elt F) arg4.view.ty) (y : S2x104x104x104.Idx) :
    arg4.view.read (Elt F) (arg4.view.writes (Elt F) f (clearL4 (F := F) c arg0 harg0 arg1 harg1 arg2 harg2 arg3 harg3 arg4 harg4 arg5 harg5)) y = zero32 := by
  unfold clearL4
  rw [clear_eq c arg0 harg0 arg1 harg1 arg2 harg2 arg3 harg3 arg4 harg4 arg5 harg5 _ (Nat.le_refl _)]
  refine read_clear arg4 f (fun k : Fin 104 => (trip_k0_t1 (F := F) Variants.none c none arg0 harg0 arg1 harg1 arg2 harg2 arg3 harg3 arg4 harg4 arg5 harg5 k).1) (fun k => ?_) y
  refine ⟨k0_off2 k, k0_off1 k, k0_off2_inb k, k0_off1_inb k, k0_off2_eq k, k0_off1_eq k, ?_⟩
  unfold trip_k0_t1
  rfl

/-- The second volume, cleared. -/
theorem read_clear5 (f : BufTy.Contents (Elt F) arg5.view.ty) (y : S2x104x104x104.Idx) :
    arg5.view.read (Elt F) (arg5.view.writes (Elt F) f (clearL5 (F := F) c arg0 harg0 arg1 harg1 arg2 harg2 arg3 harg3 arg4 harg4 arg5 harg5)) y = zero32 := by
  unfold clearL5
  rw [clear_eq c arg0 harg0 arg1 harg1 arg2 harg2 arg3 harg3 arg4 harg4 arg5 harg5 _ (Nat.le_refl _)]
  refine read_clear arg5 f (fun k : Fin 104 => (trip_k0_t1 (F := F) Variants.none c none arg0 harg0 arg1 harg1 arg2 harg2 arg3 harg3 arg4 harg4 arg5 harg5 k).2.1) (fun k => ?_) y
  refine ⟨k0_off2 k, k0_off1 k, k0_off2_inb k, k0_off1_inb k, k0_off2_eq k, k0_off1_eq k, ?_⟩
  unfold trip_k0_t1
  rfl

/-- The plane the copying loop stores, at its own place. -/
theorem copy_val (k : Fin 96) {off3 : Fin 3 → ℕ} (e3 : off3 = ![k.val, 0, 0]) (h3 : ∀ i, off3 i + S1x96x96.size i ≤ S96x96x96.size i)
    {off : Fin 4 → ℕ} (e : off = ![0, k.val + 4, 0, 0]) (h : ∀ i, off i + S1x1x96x96.size i ≤ S2x104x104x104.size i) (x : S1x1x96x96.Idx) :
    k0_pay6 (View.readAt (Elt F) arg0.view (Rect.unit (s := S96x96x96) off3 S1x96x96.size h3).toLoadRect X0) x
      = vol0 (arg0.view.read (Elt F) X0) ((Rect.unit (s := S2x104x104x104) off S1x1x96x96.size h).emb x) := by
  subst e e3
  have hx0 : (x 0).val < 1 := (x 0).isLt
  have hx1 : (x 1).val < 1 := (x 1).isLt
  have hx2 : (x 2).val < 96 := (x 2).isLt
  have hx3 : (x 3).val < 96 := (x 3).isLt
  have hk := k.isLt
  generalize hy : (Rect.unit (s := S2x104x104x104) ![0, k.val + 4, 0, 0] S1x1x96x96.size h).emb x = y
  have e0 : (y 0).val = 0 := by rw [← hy, Rect.emb_apply]; simp; omega
  have e1 : (y 1).val = k.val + 4 := by rw [← hy, Rect.emb_apply]; simp; omega
  have e2 : (y 2).val = (x 2).val := by rw [← hy, Rect.emb_apply]; simp
  have e3 : (y 3).val = (x 3).val := by rw [← hy, Rect.emb_apply]; simp
  have hin : (y 0).val = 0 ∧ inner y := by unfold inner; omega
  unfold vol0 k0_pay6
  rw [if_pos hin]
  simp only [pointwise]
  rw [View.readAt_apply]
  congr 1
  funext i
  fin_cases i
  · exact Fin.ext (by show k.val + 1 * 0 = ((y 1).val - 4) % 96; omega)
  · exact Fin.ext (by show 0 + 1 * (x 2).val = (y 2).val % 96; omega)
  · exact Fin.ext (by show 0 + 1 * (x 3).val = (y 3).val % 96; omega)

/-- The first volume after the clearing and the copying loop. -/
theorem read_vol0 (f : BufTy.Contents (Elt F) arg4.view.ty) :
    arg4.view.read (Elt F) (arg4.view.writes (Elt F) f (copyL (F := F) c arg0 harg0 arg1 harg1 arg2 harg2 arg3 harg3 arg4 harg4 arg5 harg5 X0 ++ clearL4 (F := F) c arg0 harg0 arg1 harg1 arg2 harg2 arg3 harg3 arg4 harg4 arg5 harg5))
      = vol0 (arg0.view.read (Elt F) X0) := by
  have hT : ∀ k : Fin 96, ∃ (o : Fin 4 → ℕ) (h : ∀ i, o i + S1x1x96x96.size i ≤ S2x104x104x104.size i) (w : S1x1x96x96.Idx → Elt F .f32),
      o = ![0, k.val + 4, 0, 0] ∧ (trip_k0_t2 (F := F) Variants.none c none arg0 harg0 arg1 harg1 arg2 harg2 arg3 harg3 arg4 harg4 arg5 harg5 X0 k).1 = [⟨Rect.unit (s := S2x104x104x104) o S1x1x96x96.size h, w⟩]
        ∧ ∀ x, w x = vol0 (arg0.view.read (Elt F) X0) ((Rect.unit (s := S2x104x104x104) o S1x1x96x96.size h).emb x) := fun k => by
    refine ⟨k0_off4 k, k0_off4_inb k, k0_pay6 (View.readAt (Elt F) arg0.view (Rect.unit (s := S96x96x96) (k0_off3 k) S1x96x96.size (k0_off3_inb k)).toLoadRect X0),
      k0_off4_eq k, ?_, fun x => copy_val arg0 X0 k (k0_off3_eq k) (k0_off3_inb k) (k0_off4_eq k) (k0_off4_inb k) x⟩
    unfold trip_k0_t2
    rfl
  funext y
  have y0 : (y 0).val < 2 := (y 0).isLt
  unfold copyL
  rw [copy_eq c arg0 harg0 arg1 harg1 arg2 harg2 arg3 harg3 arg4 harg4 arg5 harg5 X0 _ (Nat.le_refl _)]
  by_cases hin : (y 0).val = 0 ∧ inner y
  · refine read_over arg4 f _ _ (vol0 (arg0.view.read (Elt F) X0)) ?_ y ?_
    · intro p hp
      obtain ⟨k, hk⟩ := mem_laid hp
      obtain ⟨o, h, w, e, hLk, hw⟩ := hT k
      rw [hLk] at hk
      obtain rfl := List.mem_singleton.1 hk
      exact hw
    · obtain ⟨hc, hin'⟩ := hin
      unfold inner at hin'
      have hk : (y 1).val - 4 < 96 := by omega
      obtain ⟨o, h, w, e, hLk, hw⟩ := hT ⟨(y 1).val - 4, hk⟩
      refine ⟨_, laid_mem (L := fun k : Fin 96 => (trip_k0_t2 (F := F) Variants.none c none arg0 harg0 arg1 harg1 arg2 harg2 arg3 harg3 arg4 harg4 arg5 harg5 X0 k).1) (⟨(y 1).val - 4, hk⟩ : Fin 96) (by rw [hLk]; exact List.mem_singleton.2 rfl) hk, ?_⟩
      subst e
      refine (Rect.mem_set_unit (inb := h)).2 fun i => ?_
      fin_cases i
      · simp; omega
      · simp; omega
      · simp; omega
      · simp; omega
  · rw [read_under, read_clear4]
    · unfold vol0; rw [if_neg hin]
    · intro p hp
      obtain ⟨k, hk⟩ := mem_laid hp
      obtain ⟨o, h, w, e, hLk, hw⟩ := hT k
      rw [hLk] at hk
      obtain rfl := List.mem_singleton.1 hk
      intro hm
      subst e
      have H := (Rect.mem_set_unit (inb := h)).1 hm
      have h0 := H 0; have h1 := H 1; have h2 := H 2; have h3 := H 3
      have hk96 : k.val < 96 := k.isLt
      simp at h0 h1 h2 h3
      unfold inner at hin
      omega

/-- Outside its margin the first volume, cleared and copied into, is zero. -/
theorem vol0_margin (D : S96x96x96.Idx → Elt F .f32) (y : S2x104x104x104.Idx) (h : ¬ inner y) : vol0 D y = zero32 := by
  unfold vol0; rw [if_neg fun H => h H.2]

/-- A stored volume's margin is zero. -/
theorem volume_margin (P : Fin 2 → Fin 12 → S1x8x96x96.Idx → Elt F .f32) (y : S2x104x104x104.Idx) (h : ¬ inner y) : volume P y = zero32 := by
  unfold volume; rw [if_neg h]

end Cert.Proof.Enc

end
-- ==== Proof.Passes.lean ====
module

public import proofs.«01_k».proof.Proof.Stages

/-!
The four passes, and what the body leaves.

A pass is read in three steps: its inner loop over the depth taps ends at the accumulators of `Spec`, its pieces are a slab
of the volume `Spec` names, and the stored volume is read off them.  `body_run` is the whole body: it leaves `result` of
the voxels and the weights in the two result buffers.
-/

@[expose] public section

set_option maxRecDepth 16384

noncomputable section

namespace Cert.Proof.Enc

open Cert.KernelIdeal Cert.KernelIdeal.Gen
open Idealize.ShloMosaic Idealize.ShloMosaic.TcCoe

variable {F : FTy → Type} [FloatOps F]

open Idealize.SL Idealize.SL.RA Idealize.SL.BI
open scoped Idealize.SL.BI
open Idealize.SL.BI.BIBase Idealize.SL.BI.Laws Idealize.SL.ProofMode Idealize.SL.Sem

local notation "𝕄" => MT nD τ sig Unit (Elt F) ℕ (UR sig nD τ) ℕ

variable (c : Dev nD) (arg0 : Memref sig .tc .vmem S96x96x96 .f32) (harg0 : arg0.IsWhole) (arg1 : Memref sig .tc .smem S382 .f32) (harg1 : arg1.IsWhole) (arg2 : Memref sig .tc .vmem S96x96x96 .f32) (harg2 : arg2.IsWhole) (arg3 : Memref sig .tc .vmem S96x96x96 .f32) (harg3 : arg3.IsWhole) (arg4 : Memref sig .tc .vmem S2x104x104x104 .f32) (harg4 : arg4.IsWhole) (arg5 : Memref sig .tc .vmem S2x104x104x104 .f32) (harg5 : arg5.IsWhole)
variable (X0 : BufTy.Contents (Elt F) arg0.view.ty) (X1 : BufTy.Contents (Elt F) arg1.view.ty)

/-- One depth tap of the first pass. -/
theorem tap_eq4 (Xs : BufTy.Contents (Elt F) arg4.view.ty) (s : Fin k0_t3_loop.trips) (v6 : BitVec 32) (k : Fin k0_t4_loop.trips) (acc : Acc F) :
    tripR_k0_t4 Variants.none c none arg0 harg0 arg1 harg1 arg2 harg2 arg3 harg3 arg4 harg4 arg5 harg5 s v6 X1 Xs k acc
      = tap1 1 0 (arg1.view.read (Elt F) X1) (arg4.view.read (Elt F) Xs) s k.val acc := by
  have w0 : weights4 arg1 X1 k 0 = tapWord (arg1.view.read (Elt F) X1) 0 0 k.val := by
    funext a b
    exact load_word arg1 X1 _ (k0_off6_eq k 0 a b) (k0_off6_inb k 0 a b)
  have w1 : weights4 arg1 X1 k 1 = tapWord (arg1.view.read (Elt F) X1) 0 1 k.val := by
    funext a b
    exact load_word arg1 X1 _ (k0_off6_eq k 1 a b) (k0_off6_inb k 1 a b)
  rw [tripR4_eq, load_slab arg4 Xs (off := k0_off5 s k) 0 (8 * s.val + 4 + 1 * k.val - 1) ((k0_off5_eq s k).trans (by congr 2; omega)) (k0_off5_inb s k), w0, w1]
  rfl

/-- The accumulators of the first pass at slab `s`. -/
theorem acc_eq4 (Xs : BufTy.Contents (Elt F) arg4.view.ty) (s : Fin k0_t3_loop.trips) (v6 : BitVec 32) :
    st_k0_t4 Variants.none c none arg0 harg0 arg1 harg1 arg2 harg2 arg3 harg3 arg4 harg4 arg5 harg5 s v6 X1 Xs (k0_pay7, k0_pay7) (Scf.trips k0_t4_loop.lb k0_t4_loop.ub k0_t4_loop.st)
      = taps (tap1 1 0 (arg1.view.read (Elt F) X1) (arg4.view.read (Elt F) Xs) s) := by
  have e0 := st_k0_t4_succ (F := F) Variants.none c none arg0 harg0 arg1 harg1 arg2 harg2 arg3 harg3 arg4 harg4 arg5 harg5 s v6 X1 Xs (k0_pay7, k0_pay7) ⟨0, by decide⟩
  have e1 := st_k0_t4_succ (F := F) Variants.none c none arg0 harg0 arg1 harg1 arg2 harg2 arg3 harg3 arg4 harg4 arg5 harg5 s v6 X1 Xs (k0_pay7, k0_pay7) ⟨1, by decide⟩
  have e2 := st_k0_t4_succ (F := F) Variants.none c none arg0 harg0 arg1 harg1 arg2 harg2 arg3 harg3 arg4 harg4 arg5 harg5 s v6 X1 Xs (k0_pay7, k0_pay7) ⟨2, by decide⟩
  rw [tap_eq4] at e0 e1 e2
  exact e2.trans (congrArg _ (e1.trans (congrArg _ e0)))

/-- One depth tap of the second pass. -/
theorem tap_eq6 (Xs : BufTy.Contents (Elt F) arg5.view.ty) (s : Fin k0_t5_loop.trips) (v6 : BitVec 32) (k : Fin k0_t6_loop.trips) (acc : Acc F) :
    tripR_k0_t6 Variants.none c none arg0 harg0 arg1 harg1 arg2 harg2 arg3 harg3 arg4 harg4 arg5 harg5 s v6 X1 Xs k acc
      = tap2 2 54 (arg1.view.read (Elt F) X1) (arg5.view.read (Elt F) Xs) s k.val acc := by
  have w0 : weights6 arg1 X1 k 0 = tapWord (arg1.view.read (Elt F) X1) 54 0 k.val := by
    funext a b
    exact load_word arg1 X1 _ (k0_off11_eq k 0 a b) (k0_off11_inb k 0 a b)
  have w1 : weights6 arg1 X1 k 1 = tapWord (arg1.view.read (Elt F) X1) 54 1 k.val := by
    funext a b
    exact load_word arg1 X1 _ (k0_off11_eq k 1 a b) (k0_off11_inb k 1 a b)
  have w2 : weights6 arg1 X1 k 2 = tapWord (arg1.view.read (Elt F) X1) 54 2 k.val := by
    funext a b
    exact load_word arg1 X1 _ (k0_off11_eq k 2 a b) (k0_off11_inb k 2 a b)
  have w3 : weights6 arg1 X1 k 3 = tapWord (arg1.view.read (Elt F) X1) 54 3 k.val := by
    funext a b
    exact load_word arg1 X1 _ (k0_off11_eq k 3 a b) (k0_off11_inb k 3 a b)
  rw [tripR6_eq, load_slab arg5 Xs (off := k0_off10 s k) 0 (8 * s.val + 4 + 2 * k.val - 2) ((k0_off10_eq s k).trans (by congr 2; omega)) (k0_off10_inb s k), load_slab arg5 Xs (off := k0_off12 s k) 1 (8 * s.val + 4 + 2 * k.val - 2) ((k0_off12_eq s k).trans (by congr 2; omega)) (k0_off12_inb s k), w0, w1, w2, w3]
  rfl

/-- The accumulators of the second pass at slab `s`. -/
theorem acc_eq6 (Xs : BufTy.Contents (Elt F) arg5.view.ty) (s : Fin k0_t5_loop.trips) (v6 : BitVec 32) :
    st_k0_t6 Variants.none c none arg0 harg0 arg1 harg1 arg2 harg2 arg3 harg3 arg4 harg4 arg5 harg5 s v6 X1 Xs (k0_pay14, k0_pay14) (Scf.trips k0_t6_loop.lb k0_t6_loop.ub k0_t6_loop.st)
      = taps (tap2 2 54 (arg1.view.read (Elt F) X1) (arg5.view.read (Elt F) Xs) s) := by
  have e0 := st_k0_t6_succ (F := F) Variants.none c none arg0 harg0 arg1 harg1 arg2 harg2 arg3 harg3 arg4 harg4 arg5 harg5 s v6 X1 Xs (k0_pay14, k0_pay14) ⟨0, by decide⟩
  have e1 := st_k0_t6_succ (F := F) Variants.none c none arg0 harg0 arg1 harg1 arg2 harg2 arg3 harg3 arg4 harg4 arg5 harg5 s v6 X1 Xs (k0_pay14, k0_pay14) ⟨1, by decide⟩
  have e2 := st_k0_t6_succ (F := F) Variants.none c none arg0 harg0 arg1 harg1 arg2 harg2 arg3 harg3 arg4 harg4 arg5 harg5 s v6 X1 Xs (k0_pay14, k0_pay14) ⟨2, by decide⟩
  rw [tap_eq6] at e0 e1 e2
  exact e2.trans (congrArg _ (e1.trans (congrArg _ e0)))

/-- One depth tap of the third pass. -/
theorem tap_eq8 (Xs : BufTy.Contents (Elt F) arg4.view.ty) (s : Fin k0_t7_loop.trips) (v6 : BitVec 32) (k : Fin k0_t8_loop.trips) (acc : Acc F) :
    tripR_k0_t8 Variants.none c none arg0 harg0 arg1 harg1 arg2 harg2 arg3 harg3 arg4 harg4 arg5 harg5 s v6 X1 Xs k acc
      = tap2 4 162 (arg1.view.read (Elt F) X1) (arg4.view.read (Elt F) Xs) s k.val acc := by
  have w0 : weights8 arg1 X1 k 0 = tapWord (arg1.view.read (Elt F) X1) 162 0 k.val := by
    funext a b
    exact load_word arg1 X1 _ (k0_off17_eq k 0 a b) (k0_off17_inb k 0 a b)
  have w1 : weights8 arg1 X1 k 1 = tapWord (arg1.view.read (Elt F) X1) 162 1 k.val := by
    funext a b
    exact load_word arg1 X1 _ (k0_off17_eq k 1 a b) (k0_off17_inb k 1 a b)
  have w2 : weights8 arg1 X1 k 2 = tapWord (arg1.view.read (Elt F) X1) 162 2 k.val := by
    funext a b
    exact load_word arg1 X1 _ (k0_off17_eq k 2 a b) (k0_off17_inb k 2 a b)
  have w3 : weights8 arg1 X1 k 3 = tapWord (arg1.view.read (Elt F) X1) 162 3 k.val := by
    funext a b
    exact load_word arg1 X1 _ (k0_off17_eq k 3 a b) (k0_off17_inb k 3 a b)
  rw [tripR8_eq, load_slab arg4 Xs (off := k0_off16 s k) 0 (8 * s.val + 4 + 4 * k.val - 4) ((k0_off16_eq s k).trans (by congr 2; omega)) (k0_off16_inb s k), load_slab arg4 Xs (off := k0_off18 s k) 1 (8 * s.val + 4 + 4 * k.val - 4) ((k0_off18_eq s k).trans (by congr 2; omega)) (k0_off18_inb s k), w0, w1, w2, w3]
  rfl

/-- The accumulators of the third pass at slab `s`. -/
theorem acc_eq8 (Xs : BufTy.Contents (Elt F) arg4.view.ty) (s : Fin k0_t7_loop.trips) (v6 : BitVec 32) :
    st_k0_t8 Variants.none c none arg0 harg0 arg1 harg1 arg2 harg2 arg3 harg3 arg4 harg4 arg5 harg5 s v6 X1 Xs (k0_pay21, k0_pay21) (Scf.trips k0_t8_loop.lb k0_t8_loop.ub k0_t8_loop.st)
      = taps (tap2 4 162 (arg1.view.read (Elt F) X1) (arg4.view.read (Elt F) Xs) s) := by
  have e0 := st_k0_t8_succ (F := F) Variants.none c none arg0 harg0 arg1 harg1 arg2 harg2 arg3 harg3 arg4 harg4 arg5 harg5 s v6 X1 Xs (k0_pay21, k0_pay21) ⟨0, by decide⟩
  have e1 := st_k0_t8_succ (F := F) Variants.none c none arg0 harg0 arg1 harg1 arg2 harg2 arg3 harg3 arg4 harg4 arg5 harg5 s v6 X1 Xs (k0_pay21, k0_pay21) ⟨1, by decide⟩
  have e2 := st_k0_t8_succ (F := F) Variants.none c none arg0 harg0 arg1 harg1 arg2 harg2 arg3 harg3 arg4 harg4 arg5 harg5 s v6 X1 Xs (k0_pay21, k0_pay21) ⟨2, by decide⟩
  rw [tap_eq8] at e0 e1 e2
  exact e2.trans (congrArg _ (e1.trans (congrArg _ e0)))

/-- One depth tap of the fourth pass. -/
theorem tap_eq10 (Xs : BufTy.Contents (Elt F) arg5.view.ty) (s : Fin k0_t9_loop.trips) (v6 : BitVec 32) (k : Fin k0_t10_loop.trips) (acc : Acc F) :
    tripR_k0_t10 Variants.none c none arg0 harg0 arg1 harg1 arg2 harg2 arg3 harg3 arg4 harg4 arg5 harg5 (0#32) (1#32) s v6 X1 Xs k acc
      = tap2 2 270 (arg1.view.read (Elt F) X1) (arg5.view.read (Elt F) Xs) s k.val acc := by
  have w0 : weights10 arg1 X1 k 0 = tapWord (arg1.view.read (Elt F) X1) 270 0 k.val := by
    funext a b
    exact load_word arg1 X1 _ (k0_off23_eq k 0 a b) (k0_off23_inb k 0 a b)
  have w1 : weights10 arg1 X1 k 1 = tapWord (arg1.view.read (Elt F) X1) 270 1 k.val := by
    funext a b
    exact load_word arg1 X1 _ (k0_off23_eq k 1 a b) (k0_off23_inb k 1 a b)
  have w2 : weights10 arg1 X1 k 2 = tapWord (arg1.view.read (Elt F) X1) 270 2 k.val := by
    funext a b
    exact load_word arg1 X1 _ (k0_off23_eq k 2 a b) (k0_off23_inb k 2 a b)
  have w3 : weights10 arg1 X1 k 3 = tapWord (arg1.view.read (Elt F) X1) 270 3 k.val := by
    funext a b
    exact load_word arg1 X1 _ (k0_off23_eq k 3 a b) (k0_off23_inb k 3 a b)
  rw [tripR10_eq, load_slab arg5 Xs (off := k0_off22 s k) 0 (8 * s.val + 4 + 2 * k.val - 2) ((k0_off22_eq s k).trans (by congr 2; omega)) (k0_off22_inb s k), load_slab arg5 Xs (off := k0_off24 s k) 1 (8 * s.val + 4 + 2 * k.val - 2) ((k0_off24_eq s k).trans (by congr 2; omega)) (k0_off24_inb s k), w0, w1, w2, w3]
  rfl

/-- The accumulators of the fourth pass at slab `s`. -/
theorem acc_eq10 (Xs : BufTy.Contents (Elt F) arg5.view.ty) (s : Fin k0_t9_loop.trips) (v6 : BitVec 32) :
    st_k0_t10 Variants.none c none arg0 harg0 arg1 harg1 arg2 harg2 arg3 harg3 arg4 harg4 arg5 harg5 (0#32) (1#32) s v6 X1 Xs (k0_pay138, k0_pay138) (Scf.trips k0_t10_loop.lb k0_t10_loop.ub k0_t10_loop.st)
      = taps (tap2 2 270 (arg1.view.read (Elt F) X1) (arg5.view.read (Elt F) Xs) s) := by
  have e0 := st_k0_t10_succ (F := F) Variants.none c none arg0 harg0 arg1 harg1 arg2 harg2 arg3 harg3 arg4 harg4 arg5 harg5 (0#32) (1#32) s v6 X1 Xs (k0_pay138, k0_pay138) ⟨0, by decide⟩
  have e1 := st_k0_t10_succ (F := F) Variants.none c none arg0 harg0 arg1 harg1 arg2 harg2 arg3 harg3 arg4 harg4 arg5 harg5 (0#32) (1#32) s v6 X1 Xs (k0_pay138, k0_pay138) ⟨1, by decide⟩
  have e2 := st_k0_t10_succ (F := F) Variants.none c none arg0 harg0 arg1 harg1 arg2 harg2 arg3 harg3 arg4 harg4 arg5 harg5 (0#32) (1#32) s v6 X1 Xs (k0_pay138, k0_pay138) ⟨2, by decide⟩
  rw [tap_eq10] at e0 e1 e2
  exact e2.trans (congrArg _ (e1.trans (congrArg _ e0)))

/-- The pieces of slab `k` of the first pass. -/
theorem slab_eq3 (Xs : BufTy.Contents (Elt F) arg4.view.ty) (k : Fin 12) :
    IsSlab (stored (fun k => taps (tap1 1 0 (arg1.view.read (Elt F) X1) (arg4.view.read (Elt F) Xs) k)) (arg0.view.read (Elt F) X0)) k
      (pieces3 c arg0 harg0 arg1 harg1 arg2 harg2 arg3 harg3 arg4 harg4 arg5 harg5 X0 X1 Xs k) := by
  refine ⟨k0_off9 k, k0_off8 k, k0_off9_inb k, k0_off8_inb k, k0_off9_eq k, k0_off8_eq k, ?_⟩
  exact congr (congrArg (fun (A : Acc F) (v : Vec F S8x96x96 .f32) =>
    ([⟨Rect.unit (s := S2x104x104x104) (k0_off9 k) S1x8x96x96.size (k0_off9_inb k), k0_pay12 A.2 v⟩,
      ⟨Rect.unit (s := S2x104x104x104) (k0_off8 k) S1x8x96x96.size (k0_off8_inb k), k0_pay12 A.1 v⟩] : List (View.Piece (Elt F) S2x104x104x104 .f32)))
    (acc_eq4 c arg0 harg0 arg1 harg1 arg2 harg2 arg3 harg3 arg4 harg4 arg5 harg5 X1 Xs k _)) (load_planes arg0 X0 k (k0_off7_eq k) (k0_off7_inb k))

/-- The pieces of slab `k` of the second pass. -/
theorem slab_eq5 (Xs : BufTy.Contents (Elt F) arg5.view.ty) (k : Fin 12) :
    IsSlab (stored (fun k => taps (tap2 2 54 (arg1.view.read (Elt F) X1) (arg5.view.read (Elt F) Xs) k)) (arg0.view.read (Elt F) X0)) k
      (pieces5 c arg0 harg0 arg1 harg1 arg2 harg2 arg3 harg3 arg4 harg4 arg5 harg5 X0 X1 Xs k) := by
  refine ⟨k0_off15 k, k0_off14 k, k0_off15_inb k, k0_off14_inb k, k0_off15_eq k, k0_off14_eq k, ?_⟩
  exact congr (congrArg (fun (A : Acc F) (v : Vec F S8x96x96 .f32) =>
    ([⟨Rect.unit (s := S2x104x104x104) (k0_off15 k) S1x8x96x96.size (k0_off15_inb k), k0_pay12 A.2 v⟩,
      ⟨Rect.unit (s := S2x104x104x104) (k0_off14 k) S1x8x96x96.size (k0_off14_inb k), k0_pay12 A.1 v⟩] : List (View.Piece (Elt F) S2x104x104x104 .f32)))
    (acc_eq6 c arg0 harg0 arg1 harg1 arg2 harg2 arg3 harg3 arg4 harg4 arg5 harg5 X1 Xs k _)) (load_planes arg0 X0 k (k0_off13_eq k) (k0_off13_inb k))

/-- The pieces of slab `k` of the third pass. -/
theorem slab_eq7 (Xs : BufTy.Contents (Elt F) arg4.view.ty) (k : Fin 12) :
    IsSlab (stored (fun k => taps (tap2 4 162 (arg1.view.read (Elt F) X1) (arg4.view.read (Elt F) Xs) k)) (arg0.view.read (Elt F) X0)) k
      (pieces7 c arg0 harg0 arg1 harg1 arg2 harg2 arg3 harg3 arg4 harg4 arg5 harg5 X0 X1 Xs k) := by
  refine ⟨k0_off21 k, k0_off20 k, k0_off21_inb k, k0_off20_inb k, k0_off21_eq k, k0_off20_eq k, ?_⟩
  exact congr (congrArg (fun (A : Acc F) (v : Vec F S8x96x96 .f32) =>
    ([⟨Rect.unit (s := S2x104x104x104) (k0_off21 k) S1x8x96x96.size (k0_off21_inb k), k0_pay12 A.2 v⟩,
      ⟨Rect.unit (s := S2x104x104x104) (k0_off20 k) S1x8x96x96.size (k0_off20_inb k), k0_pay12 A.1 v⟩] : List (View.Piece (Elt F) S2x104x104x104 .f32)))
    (acc_eq8 c arg0 harg0 arg1 harg1 arg2 harg2 arg3 harg3 arg4 harg4 arg5 harg5 X1 Xs k _)) (load_planes arg0 X0 k (k0_off19_eq k) (k0_off19_inb k))

/-- The head's pieces of slab `k` over the first result. -/
theorem head_eq2 (Xs : BufTy.Contents (Elt F) arg5.view.ty) (k : Fin 12) :
    (pieces9 c arg0 harg0 arg1 harg1 arg2 harg2 arg3 harg3 arg4 harg4 arg5 harg5 X0 X1 Xs k).1
      = [⟨Rect.unit (s := S96x96x96) (k0_off25 k) S8x96x96.size (k0_off25_inb k),
          k0_pay146 (taps (tap2 2 270 (arg1.view.read (Elt F) X1) (arg5.view.read (Elt F) Xs) k)).1
            (taps (tap2 2 270 (arg1.view.read (Elt F) X1) (arg5.view.read (Elt F) Xs) k)).2
            (planes (arg0.view.read (Elt F) X0) k) (word (arg1.view.read (Elt F) X1) 378) (word (arg1.view.read (Elt F) X1) 379)⟩] := by
  rw [← acc_eq10 c arg0 harg0 arg1 harg1 arg2 harg2 arg3 harg3 arg4 harg4 arg5 harg5 X1 Xs k (trip9.sl.v6 k), ← load_planes arg0 X0 k (k0_off25_eq k) (k0_off25_inb k),
    ← load_word arg1 X1 378 (off := ![378]) rfl (by decide), ← load_word arg1 X1 379 (off := ![379]) rfl (by decide)]
  rfl

/-- The head's pieces of slab `k` over the second result. -/
theorem head_eq3 (Xs : BufTy.Contents (Elt F) arg5.view.ty) (k : Fin 12) :
    (pieces9 c arg0 harg0 arg1 harg1 arg2 harg2 arg3 harg3 arg4 harg4 arg5 harg5 X0 X1 Xs k).2
      = [⟨Rect.unit (s := S96x96x96) (k0_off25 k) S8x96x96.size (k0_off25_inb k),
          k0_pay146 (taps (tap2 2 270 (arg1.view.read (Elt F) X1) (arg5.view.read (Elt F) Xs) k)).1
            (taps (tap2 2 270 (arg1.view.read (Elt F) X1) (arg5.view.read (Elt F) Xs) k)).2
            (planes (arg0.view.read (Elt F) X0) k) (word (arg1.view.read (Elt F) X1) 380) (word (arg1.view.read (Elt F) X1) 381)⟩] := by
  rw [← acc_eq10 c arg0 harg0 arg1 harg1 arg2 harg2 arg3 harg3 arg4 harg4 arg5 harg5 X1 Xs k (trip9.sl.v6 k), ← load_planes arg0 X0 k (k0_off25_eq k) (k0_off25_inb k),
    ← load_word arg1 X1 380 (off := ![380]) rfl (by decide), ← load_word arg1 X1 381 (off := ![381]) rfl (by decide)]
  rfl

/-! ## The whole body -/

/-- The first volume before the first pass. -/
abbrev b0 (f4 : BufTy.Contents (Elt F) arg4.view.ty) : BufTy.Contents (Elt F) arg4.view.ty :=
  arg4.view.writes (Elt F) f4 (copyL (F := F) c arg0 harg0 arg1 harg1 arg2 harg2 arg3 harg3 arg4 harg4 arg5 harg5 X0 ++ clearL4 (F := F) c arg0 harg0 arg1 harg1 arg2 harg2 arg3 harg3 arg4 harg4 arg5 harg5)
/-- The second volume after the first pass. -/
abbrev b1 (f4 : BufTy.Contents (Elt F) arg4.view.ty) (f5 : BufTy.Contents (Elt F) arg5.view.ty) : BufTy.Contents (Elt F) arg5.view.ty :=
  arg5.view.writes (Elt F) f5 (laid (pieces3 c arg0 harg0 arg1 harg1 arg2 harg2 arg3 harg3 arg4 harg4 arg5 harg5 X0 X1 (b0 c arg0 harg0 arg1 harg1 arg2 harg2 arg3 harg3 arg4 harg4 arg5 harg5 X0 f4)) (Scf.trips k0_t3_loop.lb k0_t3_loop.ub k0_t3_loop.st) ++ clearL5 (F := F) c arg0 harg0 arg1 harg1 arg2 harg2 arg3 harg3 arg4 harg4 arg5 harg5)
/-- The first volume after the second pass. -/
abbrev b2 (f4 : BufTy.Contents (Elt F) arg4.view.ty) (f5 : BufTy.Contents (Elt F) arg5.view.ty) : BufTy.Contents (Elt F) arg4.view.ty :=
  arg4.view.writes (Elt F) f4 (laid (pieces5 c arg0 harg0 arg1 harg1 arg2 harg2 arg3 harg3 arg4 harg4 arg5 harg5 X0 X1 (b1 c arg0 harg0 arg1 harg1 arg2 harg2 arg3 harg3 arg4 harg4 arg5 harg5 X0 X1 f4 f5)) (Scf.trips k0_t5_loop.lb k0_t5_loop.ub k0_t5_loop.st) ++ (copyL (F := F) c arg0 harg0 arg1 harg1 arg2 harg2 arg3 harg3 arg4 harg4 arg5 harg5 X0 ++ clearL4 (F := F) c arg0 harg0 arg1 harg1 arg2 harg2 arg3 harg3 arg4 harg4 arg5 harg5))
/-- The second volume after the third pass. -/
abbrev b3 (f4 : BufTy.Contents (Elt F) arg4.view.ty) (f5 : BufTy.Contents (Elt F) arg5.view.ty) : BufTy.Contents (Elt F) arg5.view.ty :=
  arg5.view.writes (Elt F) f5 (laid (pieces7 c arg0 harg0 arg1 harg1 arg2 harg2 arg3 harg3 arg4 harg4 arg5 harg5 X0 X1 (b2 c arg0 harg0 arg1 harg1 arg2 harg2 arg3 harg3 arg4 harg4 arg5 harg5 X0 X1 f4 f5)) (Scf.trips k0_t7_loop.lb k0_t7_loop.ub k0_t7_loop.st)
    ++ (laid (pieces3 c arg0 harg0 arg1 harg1 arg2 harg2 arg3 harg3 arg4 harg4 arg5 harg5 X0 X1 (b0 c arg0 harg0 arg1 harg1 arg2 harg2 arg3 harg3 arg4 harg4 arg5 harg5 X0 f4)) (Scf.trips k0_t3_loop.lb k0_t3_loop.ub k0_t3_loop.st) ++ clearL5 (F := F) c arg0 harg0 arg1 harg1 arg2 harg2 arg3 harg3 arg4 harg4 arg5 harg5))

variable (f2 : BufTy.Contents (Elt F) arg2.view.ty) (f3 : BufTy.Contents (Elt F) arg3.view.ty) (f4 : BufTy.Contents (Elt F) arg4.view.ty) (f5 : BufTy.Contents (Elt F) arg5.view.ty)

/-- The two results, as the run left them. -/
theorem body_eq : (body c arg0 harg0 arg1 harg1 arg2 harg2 arg3 harg3 arg4 harg4 arg5 harg5 X0 X1 f2 f3 f4 f5).1
    = (arg2.view.writes (Elt F) f2 (laid (fun k => (pieces9 c arg0 harg0 arg1 harg1 arg2 harg2 arg3 harg3 arg4 harg4 arg5 harg5 X0 X1 (b3 c arg0 harg0 arg1 harg1 arg2 harg2 arg3 harg3 arg4 harg4 arg5 harg5 X0 X1 f4 f5) k).1) (Scf.trips k0_t9_loop.lb k0_t9_loop.ub k0_t9_loop.st)),
       arg3.view.writes (Elt F) f3 (laid (fun k => (pieces9 c arg0 harg0 arg1 harg1 arg2 harg2 arg3 harg3 arg4 harg4 arg5 harg5 X0 X1 (b3 c arg0 harg0 arg1 harg1 arg2 harg2 arg3 harg3 arg4 harg4 arg5 harg5 X0 X1 f4 f5) k).2) (Scf.trips k0_t9_loop.lb k0_t9_loop.ub k0_t9_loop.st))) := rfl

/-- After the first pass. -/
theorem read_b1 : arg5.view.read (Elt F) (b1 c arg0 harg0 arg1 harg1 arg2 harg2 arg3 harg3 arg4 harg4 arg5 harg5 X0 X1 f4 f5) = vol1 (arg0.view.read (Elt F) X0) (arg1.view.read (Elt F) X1) :=
  (read_slabs arg5 f5 _ _ _ (fun k => slab_eq3 c arg0 harg0 arg1 harg1 arg2 harg2 arg3 harg3 arg4 harg4 arg5 harg5 X0 X1 _ k) (fun y _ => read_clear5 c arg0 harg0 arg1 harg1 arg2 harg2 arg3 harg3 arg4 harg4 arg5 harg5 f5 y)).trans (by
    rw [read_vol0]; rfl)

/-- After the second pass. -/
theorem read_b2 : arg4.view.read (Elt F) (b2 c arg0 harg0 arg1 harg1 arg2 harg2 arg3 harg3 arg4 harg4 arg5 harg5 X0 X1 f4 f5) = vol2 (arg0.view.read (Elt F) X0) (arg1.view.read (Elt F) X1) :=
  (read_slabs arg4 f4 _ _ _ (fun k => slab_eq5 c arg0 harg0 arg1 harg1 arg2 harg2 arg3 harg3 arg4 harg4 arg5 harg5 X0 X1 _ k) (fun y hy => by rw [read_vol0, vol0_margin _ _ hy])).trans (by
    rw [read_b1]; rfl)

/-- After the third pass. -/
theorem read_b3 : arg5.view.read (Elt F) (b3 c arg0 harg0 arg1 harg1 arg2 harg2 arg3 harg3 arg4 harg4 arg5 harg5 X0 X1 f4 f5) = vol3 (arg0.view.read (Elt F) X0) (arg1.view.read (Elt F) X1) :=
  (read_slabs arg5 f5 _ _ _ (fun k => slab_eq7 c arg0 harg0 arg1 harg1 arg2 harg2 arg3 harg3 arg4 harg4 arg5 harg5 X0 X1 _ k)
    (fun y hy => (congrFun (read_b1 c arg0 harg0 arg1 harg1 arg2 harg2 arg3 harg3 arg4 harg4 arg5 harg5 X0 X1 f4 f5) y).trans (volume_margin _ _ hy))).trans (by
    rw [read_b2]; rfl)

/-- The first result. -/
theorem read_result2 : arg2.view.read (Elt F) (body c arg0 harg0 arg1 harg1 arg2 harg2 arg3 harg3 arg4 harg4 arg5 harg5 X0 X1 f2 f3 f4 f5).1.1 = result (arg0.view.read (Elt F) X0) (arg1.view.read (Elt F) X1) 378 := by
  funext y
  rw [body_eq]
  refine (read_planes arg2 f2 _ _ (fun k => ⟨k0_off25 k, k0_off25_inb k, k0_off25_eq k, head_eq2 c arg0 harg0 arg1 harg1 arg2 harg2 arg3 harg3 arg4 harg4 arg5 harg5 X0 X1 _ k⟩) y).trans ?_
  rw [read_b3]
  rfl

/-- The second result. -/
theorem read_result3 : arg3.view.read (Elt F) (body c arg0 harg0 arg1 harg1 arg2 harg2 arg3 harg3 arg4 harg4 arg5 harg5 X0 X1 f2 f3 f4 f5).1.2 = result (arg0.view.read (Elt F) X0) (arg1.view.read (Elt F) X1) 380 := by
  funext y
  rw [body_eq]
  refine (read_planes arg3 f3 _ _ (fun k => ⟨k0_off25 k, k0_off25_inb k, k0_off25_eq k, head_eq3 c arg0 harg0 arg1 harg1 arg2 harg2 arg3 harg3 arg4 harg4 arg5 harg5 X0 X1 _ k⟩) y).trans ?_
  rw [read_b3]
  rfl

/-- The whole kernel: from any contents of the results and of the volumes it leaves the arguments as they were and the two
    results of the voxels and the weights. -/
theorem body_run :
    (iprop(at_ c arg0 X0 ∗ at_ c arg1 X1 ∗ at_ c arg2 f2 ∗ at_ c arg3 f3 ∗ at_ c arg4 f4 ∗ at_ c arg5 f5) : sProp 𝕄)
      ⊢ wp frame (wpE (defs₀ (F := F)) Variants.none (c : Thread nD τ) none) Set.univ (cc0__encoder_kernel (F := F) arg0 harg0 arg1 harg1 arg2 harg2 arg3 harg3 arg4 harg4 arg5 harg5)
        (fun _ => iprop(at_ c arg0 X0 ∗ at_ c arg1 X1
          ∗ at_ c arg2 (harg2.unread (result (arg0.view.read (Elt F) X0) (arg1.view.read (Elt F) X1) 378))
          ∗ at_ c arg3 (harg3.unread (result (arg0.view.read (Elt F) X0) (arg1.view.read (Elt F) X1) 380))
          ∗ (∃ f, at_ c arg4 f) ∗ (∃ f, at_ c arg5 f))) := by
  have h := (body c arg0 harg0 arg1 harg1 arg2 harg2 arg3 harg3 arg4 harg4 arg5 harg5 X0 X1 f2 f3 f4 f5).2
  rw [harg2.eq_unread (read_result2 c arg0 harg0 arg1 harg1 arg2 harg2 arg3 harg3 arg4 harg4 arg5 harg5 X0 X1 f2 f3 f4 f5), harg3.eq_unread (read_result3 c arg0 harg0 arg1 harg1 arg2 harg2 arg3 harg3 arg4 harg4 arg5 harg5 X0 X1 f2 f3 f4 f5)] at h
  exact h

end Cert.Proof.Enc

end
-- ==== Proof.Run.lean ====
module

public import proofs.«01_k».proof.Proof.Passes
public import proofs.«01_k».proof.Proof.Gen.KernelIdeal.Regions
public import Idealize.ShloMosaic.Lib.Pipeline.RegionsLoop
public import Idealize.ShloMosaic.Lib.Tactic

/-!
The whole program: two launches of the encoder body, with host reshapes before, between and after.

Each launch fetches its voxels and the flat weights, runs the body, and writes two arrays back; `region` is that launch for
either of the two.  `runs` is the whole program: it ends with the arguments as launched, every counter at zero, and the two
results read off the last valuation.
-/

@[expose] public section

set_option maxRecDepth 16384

noncomputable section

namespace Cert.Proof.Enc

open Cert.KernelIdeal Cert.KernelIdeal.Gen
open Idealize.ShloMosaic Idealize.ShloMosaic.TcCoe Idealize.ShloMosaic.Tactic

variable {F : FTy → Type} [FloatOps F]

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

local notation "𝕄" => MT nD τ sig Unit (Elt F) ℕ (UR sig nD τ) ℕ

/-- The body as a launch uses it: from the voxels and the weights in their staging buffers, it leaves the two results in
    theirs, whatever the scratch held. -/
theorem body_owns (c : Dev nD) (arg0 : Memref sig .tc .vmem S96x96x96 .f32) (harg0 : arg0.IsWhole) (arg1 : Memref sig .tc .smem S382 .f32) (harg1 : arg1.IsWhole) (arg2 : Memref sig .tc .vmem S96x96x96 .f32) (harg2 : arg2.IsWhole) (arg3 : Memref sig .tc .vmem S96x96x96 .f32) (harg3 : arg3.IsWhole) (arg4 : Memref sig .tc .vmem S2x104x104x104 .f32) (harg4 : arg4.IsWhole) (arg5 : Memref sig .tc .vmem S2x104x104x104 .f32) (harg5 : arg5.IsWhole)
    (D : S96x96x96.Idx → Elt F .f32) (W : S382.Idx → Elt F .f32) :
    (iprop(owns (c : Thread nD τ) arg0 fullShare D ∗ owns (c : Thread nD τ) arg1 fullShare W ∗ (∃ X, owns (c : Thread nD τ) arg2 fullShare X) ∗ (∃ X, owns (c : Thread nD τ) arg3 fullShare X)
        ∗ (∃ f, at_ c arg4 f) ∗ (∃ f, at_ c arg5 f)) : sProp 𝕄)
      ⊢ wp frame (wpE (defs₀ (F := F)) Variants.none (c : Thread nD τ) none) Set.univ (cc0__encoder_kernel (F := F) arg0 harg0 arg1 harg1 arg2 harg2 arg3 harg3 arg4 harg4 arg5 harg5)
        (fun _ => iprop(owns (c : Thread nD τ) arg0 fullShare D ∗ owns (c : Thread nD τ) arg1 fullShare W
          ∗ owns (c : Thread nD τ) arg2 fullShare (result D W 378) ∗ owns (c : Thread nD τ) arg3 fullShare (result D W 380)
          ∗ (∃ f, at_ c arg4 f) ∗ (∃ f, at_ c arg5 f))) := by
  have hQ : ∀ (X0 : BufTy.Contents (Elt F) arg0.view.ty) (X1 : BufTy.Contents (Elt F) arg1.view.ty) (_ : PUnit.{1}),
      (iprop(at_ c arg0 X0 ∗ at_ c arg1 X1
          ∗ at_ c arg2 (harg2.unread (result (arg0.view.read (Elt F) X0) (arg1.view.read (Elt F) X1) 378))
          ∗ at_ c arg3 (harg3.unread (result (arg0.view.read (Elt F) X0) (arg1.view.read (Elt F) X1) 380))
          ∗ (∃ f, at_ c arg4 f) ∗ (∃ f, at_ c arg5 f)) : sProp 𝕄)
        ⊢ iprop(owns (c : Thread nD τ) arg0 fullShare (arg0.view.read (Elt F) X0) ∗ owns (c : Thread nD τ) arg1 fullShare (arg1.view.read (Elt F) X1)
          ∗ owns (c : Thread nD τ) arg2 fullShare (result (arg0.view.read (Elt F) X0) (arg1.view.read (Elt F) X1) 378)
          ∗ owns (c : Thread nD τ) arg3 fullShare (result (arg0.view.read (Elt F) X0) (arg1.view.read (Elt F) X1) 380)
          ∗ (∃ f, at_ c arg4 f) ∗ (∃ f, at_ c arg5 f)) := by
    intro X0 X1 _
    unfold owns
    iintro ⟨H0, H1, H2, H3, H4, H5⟩
    isplitl [H0]; · iexists _; isplitr; swap; (· iexact H0); ipureintro; rfl
    isplitl [H1]; · iexists _; isplitr; swap; (· iexact H1); ipureintro; rfl
    isplitl [H2]; · iexists _; isplitr; swap; (· iexact H2); ipureintro; exact harg2.read_unread _
    isplitl [H3]; · iexists _; isplitr; swap; (· iexact H3); ipureintro; exact harg3.read_unread _
    isplitl [H4]; · iexact H4
    iexact H5
  iintro ⟨H0, H1, ⟨%x2, H2⟩, ⟨%x3, H3⟩, ⟨%X4, H4⟩, ⟨%X5, H5⟩⟩
  unfold owns
  icases H0 with ⟨%X0, %e0, H0⟩
  icases H1 with ⟨%X1, %e1, H1⟩
  icases H2 with ⟨%X2, -, H2⟩
  icases H3 with ⟨%X3, -, H3⟩
  subst e0 e1
  have h := (body_run c arg0 harg0 arg1 harg1 arg2 harg2 arg3 harg3 arg4 harg4 arg5 harg5 X0 X1 X2 X3 X4 X5).trans (wp_mono _ _ _ (hQ X0 X1))
  unfold owns at h
  iapply h
  isplitl [H0]; · iexact H0
  isplitl [H1]; · iexact H1
  isplitl [H2]; · iexact H2
  isplitl [H3]; · iexact H3
  isplitl [H4]; · iexact H4
  iexact H5

/-- No cell has a level. -/
abbrev L : GSem nD τ sig → Finset Unit := fun _ => ∅
/-- No cell has a level. -/
abbrev lv : GSem nD τ sig → Unit → ℕ := fun _ _ => 0

/-- A core's thread state between two items: its unscoped buffers at a valuation, and nothing owed. -/
abbrev state (V : Dev nD → Valuation τ sig (Elt F)) (c : Dev nD) : sProp 𝕄 :=
  iprop(unscopedBufs c (fun b => V c b) ∗ ∃ W, owes (c : Thread nD τ) (0 : CellTallies nD τ sig Unit) W)

set_option backward.isDefEq.respectTransparency.types false in
/-- Either launch: entered with the unscoped buffers at `V`, left with them at `V'`, where `V'` has the arrays as the launch
    leaves them and is `V` elsewhere. -/
def region (p : Fin 2) (hl : Pipeline.LaunchFacts (nD := nD) (τ := τ) cfgs p)
    (pdats : (p : Fin 2) → (c : Dev nD) → Dat τ (Elt F) Unit ℕ (UR sig nD τ) ℕ (cfgs p) c)
    (V V' : Dev nD → Valuation τ sig (Elt F))
    (hΦ : ∀ c t, (pdats p c).Φ t = Pipeline.scopedRest (cfgs p).spec c) (hq : ∀ c w, (pdats p c).q w = fullShare)
    (howed : ∀ c t, (pdats p c).owed t = 0) (hrec : ∀ c, (pdats p c).recorded 0 = Set.univ)
    (hbody : ∀ c, BodyObligation (pdats p c) (defs₀ (F := F)) Variants.none () Set.univ)
    (hA : ∀ c w, (pdats p c).A w = V c (Pipeline.arrRef (cfgs p).spec w))
    (hV' : ∀ c w, (pdats p c).arrAt w (cfgs p).N = V' c (Pipeline.arrRef (cfgs p).spec w))
    (hrest : ∀ c (b : Ref sig .tc), b ∉ Finset.univ.image (Pipeline.arrRef (cfgs p).spec) → V' c b = V c b) :
    RegionSeg (pcfgs (F := F)) adm pdats () defs₀ Variants.none L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := state V
  post := state V'
  X _ := BI.emp
  Y _ := BI.emp
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pdats hl.win hl.arr_whole c
      ((pdats p c).share_full (hq c)) (fun b => V c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ) hl.win hl.arr_whole c
      pdats ((pdats p c).share_full (hq c)) (fun b => V c b) (fun b => V' c b) ((pdats p c).arrAt · (cfgs p).N) (hV' c) (hrest c)
    iintro ⟨Ha, HO, -, Hrest⟩
    imodintro
    isplitl [Ha Hrest]
    · iapply hjoin; isplitl [Ha] <;> iassumption
    unfold Pipeline.Dat.owesAt Pipeline.owesWithin
    rw [howed]
    icases HO with ⟨%W, -, HO⟩; iexists W; iexact HO

variable (V : Dev nD → Valuation τ sig (Elt F))

/-- What the first launch does to its arrays and buffers: it reads the voxels and the weights and writes the two results. -/
def dat0 (c : Dev nD) : Dat τ (Elt F) Unit ℕ (UR sig nD τ) ℕ cfg0 c where
  A w := V c (Pipeline.arrRef spec0 w)
  after w _ := match w with
    | ⟨0, _⟩ => V c main_v7
    | ⟨1, _⟩ => V c main_v5
    | ⟨2, _⟩ => result (V c main_v7) (V c main_v5) 378
    | ⟨3, _⟩ => result (V c main_v7) (V c main_v5) 380
  Φ _ := Pipeline.scopedRest spec0 c
  q _ := fullShare
  owed _ := 0

/-- The second launch, likewise. -/
def dat1 (c : Dev nD) : Dat τ (Elt F) Unit ℕ (UR sig nD τ) ℕ cfg1 c where
  A w := V c (Pipeline.arrRef spec1 w)
  after w _ := match w with
    | ⟨0, _⟩ => V c main_v10
    | ⟨1, _⟩ => V c main_v5
    | ⟨2, _⟩ => result (V c main_v10) (V c main_v5) 378
    | ⟨3, _⟩ => result (V c main_v10) (V c main_v5) 380
  Φ _ := Pipeline.scopedRest spec1 c
  q _ := fullShare
  owed _ := 0

/-- After a launch of one point, a window's block of its array is what was written back there. -/
theorem arrAt_one {cfg : Cfg sig Λ₀} {c : Dev nD} (dat : Dat τ (Elt F) Unit ℕ (UR sig nD τ) ℕ cfg c) (w : Fin cfg.W) (t : Fin cfg.N)
    (hN : cfg.N = t.val + 1) (hf : (cfg.win w).flush t = true) :
    ((cfg.win w).blk t).view.read (Elt F) (dat.arrAt w cfg.N) = dat.flushed w t := by
  rw [hN, dat.arrAt_succ w t, if_pos hf]
  exact View.read_write_univ _ _

/-- Launch 0's body finds the first batch's voxels in its first window. -/
theorem before0_0 (c : Dev nD) (d : (cfg0.win 0).block.Idx → Elt F (cfg0.win 0).elt) : (dat0 V c).before 0 t0_0 d = V c main_v7 := by
  unfold Dat.before; rw [if_pos (by decide)]
  exact (rfl : _ = ((cfg0.win 0).blk t0_0).view.read (Elt F) (V c main_v7)).trans
    (Memref.read_access_unit_zero (Elt F) main_v7 (funext fun a => Nat.zero_mul _) _ (V c main_v7))

/-- Launch 0's body finds the flat weights in its second window. -/
theorem before0_1 (c : Dev nD) (d : (cfg0.win 1).block.Idx → Elt F (cfg0.win 1).elt) : (dat0 V c).before 1 t0_0 d = V c main_v5 := by
  unfold Dat.before; rw [if_pos (by decide)]
  exact (rfl : _ = ((cfg0.win 1).blk t0_0).view.read (Elt F) (V c main_v5)).trans
    (Memref.read_access_unit_zero (Elt F) main_v5 (funext fun a => Nat.zero_mul _) _ (V c main_v5))

/-- After launch 0 its first result holds the kernel's result for the head weights that begin at 378. -/
theorem after0_2 (c : Dev nD) : (dat0 V c).arrAt 2 cfg0.N = result (V c main_v7) (V c main_v5) 378 :=
  (Memref.read_access_unit_zero (Elt F) main_v8_0 (funext fun a => Nat.zero_mul _) _ _).symm.trans
    (arrAt_one (dat0 V c) (2 : Fin 4) t0_0 rfl (by decide))

/-- After launch 0 its second result holds the kernel's result for the head weights that begin at 380. -/
theorem after0_3 (c : Dev nD) : (dat0 V c).arrAt 3 cfg0.N = result (V c main_v7) (V c main_v5) 380 :=
  (Memref.read_access_unit_zero (Elt F) main_v8_1 (funext fun a => Nat.zero_mul _) _ _).symm.trans
    (arrAt_one (dat0 V c) (3 : Fin 4) t0_0 rfl (by decide))

/-- The body of launch 0, as the launch asks for it. -/
theorem obligation0 (c : Dev nD) : BodyObligation (dat0 V c) (defs₀ (F := F)) Variants.none () Set.univ := fun t => by
  obtain rfl := fin_N0 t
  rw [bigSep_W0, bigSep_W0]
  rw [show (dat0 V c).Φ t0_0.castSucc = Pipeline.scopedRest spec0 c from rfl, show (dat0 V c).Φ t0_0.succ = Pipeline.scopedRest spec0 c from rfl,
    show (dat0 V c).owesAt () t0_0.succ = (dat0 V c).owesAt () t0_0.castSucc from rfl, scopedRest0_eq]
  have hb := body_owns (F := F) c (stage0_0 0) (hstage0_0 0) (stage0_1 0) (hstage0_1 0) (stage0_2 0) (hstage0_2 0) (stage0_3 0) (hstage0_3 0)
    (Memref.whole cc0_scratch0) (Memref.isWhole_whole _) (Memref.whole cc0_scratch1) (Memref.isWhole_whole _) (V c main_v7) (V c main_v5)
  simp only [at_, Memref.view_whole, View.set_whole] at hb
  iintro ⟨⟨H4, H5, Hr⟩, Howes, ⟨%d0, H0⟩, ⟨%d1, H1⟩, ⟨%d2, H2⟩, ⟨%d3, H3⟩⟩
  rw [before0_0, before0_1]
  iapply wp_wand $$ [H0 H1 H2 H3 H4 H5]
  · iapply hb
    isplitl [H0]; · iexact H0
    isplitl [H1]; · iexact H1
    isplitl [H2]; · iexists _; iexact H2
    isplitl [H3]; · iexists _; iexact H3
    isplitl [H4]; · iexact H4
    iexact H5
  iintro %_ ⟨H0, H1, H2, H3, H4, H5⟩
  isplitr [Howes H0 H1 H2 H3]
  · isplitl [H4]; · iexact H4
    isplitl [H5]; · iexact H5
    iexact Hr
  isplitl [Howes]; · iexact Howes
  isplitl [H0]; · iexact H0
  isplitl [H1]; · iexact H1
  isplitl [H2]; · iexact H2
  iexact H3

/-- Launch 1's body finds the second batch's voxels in its first window. -/
theorem before1_0 (c : Dev nD) (d : (cfg1.win 0).block.Idx → Elt F (cfg1.win 0).elt) : (dat1 V c).before 0 t1_0 d = V c main_v10 := by
  unfold Dat.before; rw [if_pos (by decide)]
  exact (rfl : _ = ((cfg1.win 0).blk t1_0).view.read (Elt F) (V c main_v10)).trans
    (Memref.read_access_unit_zero (Elt F) main_v10 (funext fun a => Nat.zero_mul _) _ (V c main_v10))

/-- Launch 1's body finds the flat weights in its second window. -/
theorem before1_1 (c : Dev nD) (d : (cfg1.win 1).block.Idx → Elt F (cfg1.win 1).elt) : (dat1 V c).before 1 t1_0 d = V c main_v5 := by
  unfold Dat.before; rw [if_pos (by decide)]
  exact (rfl : _ = ((cfg1.win 1).blk t1_0).view.read (Elt F) (V c main_v5)).trans
    (Memref.read_access_unit_zero (Elt F) main_v5 (funext fun a => Nat.zero_mul _) _ (V c main_v5))

/-- After launch 1 its first result holds the kernel's result for the head weights that begin at 378. -/
theorem after1_2 (c : Dev nD) : (dat1 V c).arrAt 2 cfg1.N = result (V c main_v10) (V c main_v5) 378 :=
  (Memref.read_access_unit_zero (Elt F) main_v11_0 (funext fun a => Nat.zero_mul _) _ _).symm.trans
    (arrAt_one (dat1 V c) (2 : Fin 4) t1_0 rfl (by decide))

/-- After launch 1 its second result holds the kernel's result for the head weights that begin at 380. -/
theorem after1_3 (c : Dev nD) : (dat1 V c).arrAt 3 cfg1.N = result (V c main_v10) (V c main_v5) 380 :=
  (Memref.read_access_unit_zero (Elt F) main_v11_1 (funext fun a => Nat.zero_mul _) _ _).symm.trans
    (arrAt_one (dat1 V c) (3 : Fin 4) t1_0 rfl (by decide))

/-- The body of launch 1, as the launch asks for it. -/
theorem obligation1 (c : Dev nD) : BodyObligation (dat1 V c) (defs₀ (F := F)) Variants.none () Set.univ := fun t => by
  obtain rfl := fin_N1 t
  rw [bigSep_W1, bigSep_W1]
  rw [show (dat1 V c).Φ t1_0.castSucc = Pipeline.scopedRest spec1 c from rfl, show (dat1 V c).Φ t1_0.succ = Pipeline.scopedRest spec1 c from rfl,
    show (dat1 V c).owesAt () t1_0.succ = (dat1 V c).owesAt () t1_0.castSucc from rfl, scopedRest1_eq]
  have hb := body_owns (F := F) c (stage1_0 0) (hstage1_0 0) (stage1_1 0) (hstage1_1 0) (stage1_2 0) (hstage1_2 0) (stage1_3 0) (hstage1_3 0)
    (Memref.whole cc1_scratch0) (Memref.isWhole_whole _) (Memref.whole cc1_scratch1) (Memref.isWhole_whole _) (V c main_v10) (V c main_v5)
  simp only [at_, Memref.view_whole, View.set_whole] at hb
  iintro ⟨⟨Ha, Hb, Hc, Hd, He, H4, H5, Hf⟩, Howes, ⟨%d0, H0⟩, ⟨%d1, H1⟩, ⟨%d2, H2⟩, ⟨%d3, H3⟩⟩
  rw [before1_0, before1_1]
  iapply wp_wand $$ [H0 H1 H2 H3 H4 H5]
  · iapply hb
    isplitl [H0]; · iexact H0
    isplitl [H1]; · iexact H1
    isplitl [H2]; · iexists _; iexact H2
    isplitl [H3]; · iexists _; iexact H3
    isplitl [H4]; · iexact H4
    iexact H5
  iintro %_ ⟨H0, H1, H2, H3, H4, H5⟩
  isplitr [Howes H0 H1 H2 H3]
  · isplitl [Ha]; · iexact Ha
    isplitl [Hb]; · iexact Hb
    isplitl [Hc]; · iexact Hc
    isplitl [Hd]; · iexact Hd
    isplitl [He]; · iexact He
    isplitl [H4]; · iexact H4
    isplitl [H5]; · iexact H5
    iexact Hf
  isplitl [Howes]; · iexact Howes
  isplitl [H0]; · iexact H0
  isplitl [H1]; · iexact H1
  isplitl [H2]; · iexact H2
  iexact H3

variable (m : (ℓ : Loc nD τ sig) → Buf (Elt F) ℓ)

/-- What the first launch leaves in the buffers it may change. -/
def outs0 : Outs (F := F) := fun _ r c =>
  Function.update (β := fun r : Ref sig .tc => Buf (Elt F) ((c : Thread nD τ).loc r))
    (Function.update (β := fun r : Ref sig .tc => Buf (Elt F) ((c : Thread nD τ).loc r)) (fun r => V1 m c r)
      main_v8_0 (result (V1 m c main_v7) (V1 m c main_v5) 378)) main_v8_1 (result (V1 m c main_v7) (V1 m c main_v5) 380) r

/-- What either launch leaves in the buffers it may change. -/
def outs : Outs (F := F) := fun J r c =>
  match J with
  | 2 => outs0 m 2 r c
  | _ => Function.update (β := fun r : Ref sig .tc => Buf (Elt F) ((c : Thread nD τ).loc r))
      (Function.update (β := fun r : Ref sig .tc => Buf (Elt F) ((c : Thread nD τ).loc r)) (fun r => V1 m c r)
        main_v11_0 (result (V3 m (outs0 m) c main_v10) (V3 m (outs0 m) c main_v5) 378)) main_v11_1 (result (V3 m (outs0 m) c main_v10) (V3 m (outs0 m) c main_v5) 380) r

/-- Once launch 0 has returned, its first result array holds the kernel's first result of the first batch. -/
theorem outs_v8_0 (c : Dev nD) : V2 m (outs m) c main_v8_0 = result (V1 m c main_v7) (V1 m c main_v5) 378 := by
  rw [V2, Function.update_of_ne (StableHlo.devRef_ne_of_ne (by decide)), Function.update_self]
  show outs0 m 2 main_v8_0 c = _
  rw [outs0, Function.update_of_ne (by decide), Function.update_self]

/-- Once launch 0 has returned, its second result array holds the kernel's second result of the first batch. -/
theorem outs_v8_1 (c : Dev nD) : V2 m (outs m) c main_v8_1 = result (V1 m c main_v7) (V1 m c main_v5) 380 := by
  rw [V2, Function.update_self]
  show outs0 m 2 main_v8_1 c = _
  rw [outs0, Function.update_self]

/-- Once launch 1 has returned, its first result array holds the kernel's first result of the second batch. -/
theorem outs_v11_0 (c : Dev nD) : V4 m (outs m) c main_v11_0 = result (V3 m (outs m) c main_v10) (V3 m (outs m) c main_v5) 378 := by
  rw [V4, Function.update_of_ne (StableHlo.devRef_ne_of_ne (by decide)), Function.update_self]
  show Function.update (β := fun r : Ref sig .tc => Buf (Elt F) ((c : Thread nD τ).loc r)) (Function.update (β := fun r : Ref sig .tc => Buf (Elt F) ((c : Thread nD τ).loc r)) _ main_v11_0 _) main_v11_1 _ main_v11_0 = _
  rw [Function.update_of_ne (by decide), Function.update_self]
  rfl

/-- Once launch 1 has returned, its second result array holds the kernel's second result of the second batch. -/
theorem outs_v11_1 (c : Dev nD) : V4 m (outs m) c main_v11_1 = result (V3 m (outs m) c main_v10) (V3 m (outs m) c main_v5) 380 := by
  rw [V4, Function.update_self]
  exact Function.update_self (β := fun r : Ref sig .tc => Buf (Elt F) ((c : Thread nD τ).loc r)) ..

/-- The two launches' data, each from the valuation it is entered at. -/
def pdats : (p : Fin 2) → (c : Dev nD) → Dat τ (Elt F) Unit ℕ (UR sig nD τ) ℕ (cfgs p) c
  | ⟨0, _⟩ => fun c => dat0 (V1 m) c
  | ⟨1, _⟩ => fun c => dat1 (V3 m (outs m)) c

set_option backward.isDefEq.respectTransparency.types false in
/-- The first launch. -/
def region0 : RegionSeg (pcfgs (F := F)) adm (pdats m) () defs₀ Variants.none L lv 0 :=
  region 0 launch0 (pdats m) (V1 m) (V2 m (outs m)) (fun _ _ => rfl) (fun _ _ => rfl) (fun _ _ => rfl) (fun _ => rfl)
    (fun c => obligation0 (V1 m) c) (fun _ _ => rfl)
    (fun c w => by
      fin_cases w
      · exact ((pdats m 0 c).arrAt_in 0 rfl _).trans (V2_of m (outs m) c main_v7 (by decide)).symm
      · exact ((pdats m 0 c).arrAt_in 1 rfl _).trans (V2_of m (outs m) c main_v5 (by decide)).symm
      · exact (after0_2 (V1 m) c).trans (outs_v8_0 m c).symm
      · exact (after0_3 (V1 m) c).trans (outs_v8_1 m c).symm)
    (fun c b hb => V2_of m (outs m) c b fun h => hb (by
      rcases List.mem_cons.1 h with h | h
      · exact h ▸ Finset.mem_image.mpr ⟨2, Finset.mem_univ _, rfl⟩
      · exact (List.mem_singleton.1 h) ▸ Finset.mem_image.mpr ⟨3, Finset.mem_univ _, rfl⟩))

set_option backward.isDefEq.respectTransparency.types false in
/-- The second launch. -/
def region1 : RegionSeg (pcfgs (F := F)) adm (pdats m) () defs₀ Variants.none L lv 1 :=
  region 1 launch1 (pdats m) (V3 m (outs m)) (V4 m (outs m)) (fun _ _ => rfl) (fun _ _ => rfl) (fun _ _ => rfl) (fun _ => rfl)
    (fun c => obligation1 (V3 m (outs m)) c) (fun _ _ => rfl)
    (fun c w => by
      fin_cases w
      · exact ((pdats m 1 c).arrAt_in 0 rfl _).trans (V4_of m (outs m) c main_v10 (by decide)).symm
      · exact ((pdats m 1 c).arrAt_in 1 rfl _).trans (V4_of m (outs m) c main_v5 (by decide)).symm
      · exact (after1_2 (V3 m (outs m)) c).trans (outs_v11_0 m c).symm
      · exact (after1_3 (V3 m (outs m)) c).trans (outs_v11_1 m c).symm)
    (fun c b hb => V4_of m (outs m) c b fun h => hb (by
      rcases List.mem_cons.1 h with h | h
      · exact h ▸ Finset.mem_image.mpr ⟨2, Finset.mem_univ _, rfl⟩
      · exact (List.mem_singleton.1 h) ▸ Finset.mem_image.mpr ⟨3, Finset.mem_univ _, rfl⟩))

/-- The launches' share of the resources is all of them. -/
abbrev EP : Emb (URounds (GSem nD τ sig) Unit) 𝕄 :=
  (Emb.refl _).trans (uEmb (nD := nD) (sig := sig) (Ix := Unit) (Val := Elt F) (Name := ℕ) (U := UR sig nD τ) (Lvl := ℕ)).toEmb

/-- That share lies among the resources that programs may spend. -/
instance : (EP (F := F)).LandsIn (upEmb : UEmb _ 𝕄) := by unfold EP; infer_instance

/-- Beside its buffers a core holds only that it owes nothing. -/
abbrev rest (_ : Fin 3) (c : Dev nD) : sProp 𝕄 := iprop(∃ W, owes (c : Thread nD τ) (0 : CellTallies nD τ sig Unit) W)

/-- What a final state says: the arguments as launched, and the two results as the last valuation has them. -/
def Ends (c : Dev nD) (s : MemSt nD τ sig (Elt F)) : Prop :=
  (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    ∧ s.mem ((c.tc : Thread nD τ).loc main_v15) = V5 m (outs m) c main_v15
    ∧ s.mem ((c.tc : Thread nD τ).loc main_v19) = V5 m (outs m) c main_v19

set_option backward.isDefEq.respectTransparency.types false in
/-- The whole program: every fair execution ends, with the arguments as launched, every counter at zero, and the two results
    as the last valuation has them. -/
theorem runs (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ Variants.none L lv m ρ main
    (segs m (outs m) Variants.none L lv rest () (pdats m) (region0 m) (region1 m))
    (fun c Q => by
      rewrite [main_chain c, Idealize.ShloMosaic.Pipeline.Seg.run_eq_chain,
        show (segs m (outs m) Variants.none L lv rest () (pdats m) (region0 m) (region1 m) c).map Idealize.ShloMosaic.Pipeline.Seg.prog = [
          StableHlo.seq hostOps0, Prog.lift (.customCall (Pipeline.entry 0) ()), StableHlo.seq hostOps1,
          Prog.lift (.customCall (Pipeline.entry 1) ()), StableHlo.seq hostOps2 ] from rfl]
      dsimp (config := { failIfUnchanged := false }) only
      exact .rfl)
    (fun c => by simp only [segs, Idealize.ShloMosaic.Pipeline.Seg.pipes_host, Idealize.ShloMosaic.Pipeline.Seg.pipes_region, Idealize.ShloMosaic.Pipeline.Seg.pipes_nil]; decide)
    (0 : Dev nD → CellTallies nD τ sig Unit) (fun _ _ => rfl) (fun _ => BI.emp)
    (initOf (Pipeline.cells cfgs cellOf_inj) (Pipeline.launchToks cfgs cellOf_inj)) ?hu
    (T₀ := fun c => iprop(StableHlo.held (c : Thread nD τ) (Pipeline.ucRefs τ sig) (V0 m c) ∗ rest 0 c))
    (Tₙ := fun c => StableHlo.held (c : Thread nD τ) (Pipeline.ucRefs τ sig) (V5 m (outs m) c))
    (hch := fun c => ⟨.rfl, ?p0, ?q0, ?p1, ?q1, .rfl⟩)
    (hinit := ?init) (QY := Ends m)
    (hfin := fun c s' => ?fin) (hQ := fun _ h hz => ⟨h, funext fun g => hz g (.inr (regions_no_unscoped g.2))⟩)
  case hu =>
    iintro H
    imodintro
    isplitl [H]
    · iapply (show (ownU (initOf (Pipeline.cells cfgs cellOf_inj) (Pipeline.launchToks cfgs cellOf_inj)) : sProp 𝕄)
        ⊢ BI.own (EP (initOf (Pipeline.cells cfgs cellOf_inj) (Pipeline.launchToks cfgs cellOf_inj))) from .rfl)
      iexact H
    rw [BI.bigSep_emp_const]; iempintro
  case p0 => exact sep_mono (Entails.of_eq (Pipeline.unscopedBufs_held (Ix := Unit) (Name := ℕ) (U := UR sig nD τ) (Lvl := ℕ) c (V1 m c)).symm) .rfl
  case q0 => exact sep_mono (Entails.of_eq (Pipeline.unscopedBufs_held (Ix := Unit) (Name := ℕ) (U := UR sig nD τ) (Lvl := ℕ) c (V2 m (outs m) c))) .rfl
  case p1 => exact sep_mono (Entails.of_eq (Pipeline.unscopedBufs_held (Ix := Unit) (Name := ℕ) (U := UR sig nD τ) (Lvl := ℕ) c (V3 m (outs m) c)).symm) .rfl
  case q1 => exact sep_mono (Entails.of_eq (Pipeline.unscopedBufs_held (Ix := Unit) (Name := ℕ) (U := UR sig nD τ) (Lvl := ℕ) c (V4 m (outs m) c))) .rfl
  case init =>
    refine Pipeline.initEach L lv fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  case fin =>
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have at' (b : Ref sig .tc) (hb : b.isScoped = false) : s'.mem.mem ((c.tc : Thread nD τ).loc b) = V5 m (outs m) c b :=
        h (Proc.devRef .tc b) (Finset.mem_filter.mpr ⟨StableHlo.devRef_mem_tcRefs b, by simpa using hb⟩)
      exact ⟨⟨(at' main_arg0 (by decide)).trans (V5_main_arg0 m (outs m) c), (at' main_arg1 (by decide)).trans (V5_main_arg1 m (outs m) c), (at' main_arg2 (by decide)).trans (V5_main_arg2 m (outs m) c), (at' main_arg3 (by decide)).trans (V5_main_arg3 m (outs m) c), (at' main_arg4 (by decide)).trans (V5_main_arg4 m (outs m) c), (at' main_arg5 (by decide)).trans (V5_main_arg5 m (outs m) c)⟩,
        at' main_v15 (by decide), at' main_v19 (by decide)⟩
    · iexact HSI

end Cert.Proof.Enc

end
-- ==== Proof.Frames.lean ====
module

public import proofs.«01_k».proof.Defs
public import proofs.«01_k».proof.Proof.Run
public import proofs.«01_k».proof.Proof.Gen.Kernel.Launch
public import proofs.«01_k».proof.Proof.Gen.ReferenceIdeal.Run

/-!
The three frames: each program leaves its arguments as launched and every counter at zero.

The idealized kernel's frame is its run.  The kernel's own text is the same program, so its frame is that run at bits.
-/

@[expose] public section

set_option maxRecDepth 100000

noncomputable section

namespace Cert.Proof

open Idealize.ShloMosaic Idealize.ShloMosaic.TcCoe

section Same

variable {F : FTy → Type} [FloatOps F]

set_option maxHeartbeats 4000000 in
/-- The two programs define the same bodies. -/
theorem bodies_same : @Cert.KernelIdeal.defs₀ F _ _ = @Cert.Kernel.defs₀ F _ _ := by
  unfold Cert.KernelIdeal.defs₀ Cert.Kernel.defs₀
  refine congrArg Defs.onTc ?_
  funext l a
  match l, a with
  | 0, (t, s) => rfl
  | 1, (t, s) => rfl
  | ⟨_ + 2, h⟩, _ => exact absurd h (Nat.not_lt.2 (Nat.le_add_left _ _))

set_option maxHeartbeats 4000000 in
/-- The two programs run their bodies through the same pipelines. -/
theorem defs_same : @Cert.KernelIdeal.defs F _ _ = @Cert.Kernel.defs F _ _ := congrArg (Pipeline.defs _) bodies_same

set_option maxHeartbeats 4000000 in
/-- The two programs have the same host text. -/
theorem main_same : @Cert.KernelIdeal.main F _ = @Cert.Kernel.main F _ := rfl

end Same

/-- The idealized kernel's frame. -/
theorem frame_ideal : Cert.quiescent_KernelIdeal := fun m g _ =>
  (θ_run Cert.KernelIdeal.defs _ _).mono (fun _ h => ⟨fun c => (h.1 c).1, h.2⟩) (Enc.runs (F := Ideal) m g)

set_option maxHeartbeats 4000000 in
/-- The kernel's frame. -/
theorem frame_kernel : Cert.quiescent_Kernel := fun m g _ => by
  have h := Enc.runs (F := Bits) m g
  rw [defs_same, main_same] at h
  exact (θ_run Cert.Kernel.defs _ _).mono (fun _ h => ⟨fun c => (h.1 c).1, h.2⟩) h

/-- The reference's frame. -/
theorem frame_reference : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

end Cert.Proof
-- ==== Proof.Layer.lean ====
module

public import Idealize.ShloMosaic.Lib.IdealHost

/-!
The encoder as mathematics on the extended reals.

A block of voxels with `n` channels is a function of a channel and three coordinates.  A layer convolves it with a dilated
3 by 3 by 3 kernel, the outside of the block counting as zero, cuts the sum at zero and masks it.  Four layers and a
masked sigmoid of two channels are the whole encoder.
-/

@[expose] public section

noncomputable section

namespace Cert.Proof

open Idealize.ShloMosaic
open scoped BigOperators

/-- A block of `n` channels, by channel and coordinates; only coordinates below 96 matter. -/
abbrev Block (n : ℕ) : Type := Fin n → ℕ → ℕ → ℕ → EReal

/-- The weights of a layer with `n` input channels: output channel, input channel, and the three taps. -/
abbrev Weights (n : ℕ) : Type := Fin 2 → Fin n → Fin 3 → Fin 3 → Fin 3 → EReal

/-- The place lies in the block once a margin of `dil` is taken off. -/
abbrev InBlock (dil p q r : ℕ) : Prop := dil ≤ p ∧ p < 96 + dil ∧ dil ≤ q ∧ q < 96 + dil ∧ dil ≤ r ∧ r < 96 + dil

/-- The block with a margin of `dil` zeros all round. -/
def padded {n : ℕ} (dil : ℕ) (Y : Block n) : Block n := fun ci p q r =>
  if InBlock dil p q r then Y ci (p - dil) (q - dil) (r - dil) else 0

/-- One tap of the convolution. -/
def tapTerm {n : ℕ} (dil : ℕ) (w : Weights n) (Y : Block n) (co : Fin 2) (d h x : ℕ) (ci : Fin n) (a b c : Fin 3) : EReal :=
  w co ci a b c * padded dil Y ci (d + dil * a.val) (h + dil * b.val) (x + dil * c.val)

/-- The dilated convolution of a padded block. -/
def conv {n : ℕ} (dil : ℕ) (w : Weights n) (Y : Block n) : Block 2 := fun co d h x =>
  ∑ ci : Fin n, ∑ a : Fin 3, ∑ b : Fin 3, ∑ c : Fin 3, tapTerm dil w Y co d h x ci a b c

/-- The mask of a block of one channel: one at a voxel that is not zero, zero elsewhere. -/
def maskOf (v : EReal) : EReal := if v ≠ 0 then 1 else 0

/-- A layer: the convolution, cut at zero and masked by the voxels `D`. -/
def layer {n : ℕ} (dil : ℕ) (w : Weights n) (D : Block 1) (Y : Block n) : Block 2 := fun co d h x =>
  maskOf (D 0 d h x) * max (conv dil w Y co d h x) 0

/-- The four layers. -/
def encoder (w1 : Weights 1) (w2 w3 w4 : Weights 2) (D : Block 1) : Block 2 :=
  layer 2 w4 D (layer 4 w3 D (layer 2 w2 D (layer 1 w1 D D)))

/-- A result: the two channels weighted, through the sigmoid, masked. -/
def sigmoidHead (u0 u1 : EReal) (D : Block 1) (Y : Block 2) (d h x : ℕ) : EReal :=
  maskOf (D 0 d h x) * (1 + Ideal.exp (-(u0 * Y 0 d h x + u1 * Y 1 d h x)))⁻¹

/-- The exponential is not negative. -/
theorem exp_nonneg (x : EReal) : 0 ≤ Ideal.exp x := by
  induction x using EReal.rec with
  | bot => exact le_refl _
  | top => exact le_top
  | coe r => exact EReal.coe_nonneg.2 (Real.exp_pos r).le

/-- The sigmoid's divisor is not zero. -/
theorem divisor_ne_zero (x : EReal) : 1 + Ideal.exp x ≠ 0 := by
  have h : (0 : EReal) < 1 + Ideal.exp x :=
    lt_of_lt_of_le zero_lt_one (le_add_of_nonneg_right (exp_nonneg x))
  exact h.ne'

/-- The mask over the divisor is the mask times its inverse. -/
theorem div_divisor (m x : EReal) : Ideal.div m (1 + Ideal.exp x) = m * (1 + Ideal.exp x)⁻¹ := by
  unfold Ideal.div
  rw [if_neg (divisor_ne_zero x)]

/-- Three depth taps of one input channel, added to zero one after the other, are the convolution. -/
theorem conv_one (dil : ℕ) (w : Weights 1) (Y : Block 1) (co : Fin 2) (d h x : ℕ) (T : Fin 3 → EReal)
    (hT : ∀ a, T a = ∑ b : Fin 3, ∑ c : Fin 3, tapTerm dil w Y co d h x 0 a b c) :
    0 + T 0 + T 1 + T 2 = conv dil w Y co d h x := by
  unfold conv
  rw [Fin.sum_univ_one, Fin.sum_univ_three (fun a => ∑ b : Fin 3, ∑ c : Fin 3, tapTerm dil w Y co d h x 0 a b c), hT, hT, hT, zero_add]

/-- The same with two input channels, the channels of a depth tap added in turn. -/
theorem conv_two (dil : ℕ) (w : Weights 2) (Y : Block 2) (co : Fin 2) (d h x : ℕ) (T : Fin 2 → Fin 3 → EReal)
    (hT : ∀ ci a, T ci a = ∑ b : Fin 3, ∑ c : Fin 3, tapTerm dil w Y co d h x ci a b c) :
    0 + T 0 0 + T 1 0 + T 0 1 + T 1 1 + T 0 2 + T 1 2 = conv dil w Y co d h x := by
  unfold conv
  rw [Fin.sum_univ_two, Fin.sum_univ_three (fun a => ∑ b : Fin 3, ∑ c : Fin 3, tapTerm dil w Y co d h x 0 a b c),
    Fin.sum_univ_three (fun a => ∑ b : Fin 3, ∑ c : Fin 3, tapTerm dil w Y co d h x 1 a b c)]
  simp only [← hT]
  rw [zero_add]
  ac_rfl

end Cert.Proof

end
-- ==== Proof.KernelValue.lean ====
module

public import proofs.«01_k».proof.Proof.Spec
public import proofs.«01_k».proof.Proof.Layer
public import Idealize.ShloMosaic.PureOps.Ideal.Laws

/-!
The kernel's passes on the extended reals are the encoder's layers.

A scratch volume keeps a block at the places inside its margin and zero outside; a plane of a slab, rotated for a tap, then
reads the padded block.  So a pass's accumulators are a convolution, what it stores is a layer, and the two results are the
masked sigmoid of the fourth layer.
-/

@[expose] public section

set_option maxRecDepth 16384

noncomputable section

namespace Cert.Proof.Enc

open Cert.KernelIdeal Cert.KernelIdeal.Gen
open Idealize.ShloMosaic Idealize.ShloMosaic.TcCoe
open scoped BigOperators

/-- The kernel's zero is the extended reals' zero. -/
theorem zero32_ideal : (zero32 : Elt Ideal .f32) = (0 : EReal) := Ideal.ofBits_zero_f32

/-- The volume keeps block `Y`: its channels at the inner places, zero outside. -/
def Keeps {n : ℕ} (V : S2x104x104x104.Idx → Elt Ideal .f32) (Y : Block n) : Prop :=
  ∀ (ch : Fin 2) (ci : Fin n), ch.val = ci.val → ∀ (p : ℕ) (hp : p < 104) (q : ℕ) (hq : q < 104) (r : ℕ) (hr : r < 104),
    V (ix4 ch (⟨p, hp⟩ : Fin 104) (⟨q, hq⟩ : Fin 104) (⟨r, hr⟩ : Fin 104))
      = (if 4 ≤ p ∧ p < 100 ∧ q < 96 ∧ r < 96 then Y ci (p - 4) q r else 0 : EReal)

/-- A slab's plane, rotated for a tap, reads the padded block. -/
theorem slabAt_keeps {n : ℕ} {V : S2x104x104x104.Idx → Elt Ideal .f32} {Y : Block n} (hV : Keeps V Y) (dil : ℕ) (hdil : dil ≤ 4)
    (ch : Fin 2) (ci : Fin n) (hch : ch.val = ci.val) (k : Fin 12) (kd a b : Fin 3) (z : Fin 8) (h x : Fin 96)
    (hq : (h.val + 104 + dil * a.val - dil) % 104 < 104) (hr : (x.val + 104 + dil * b.val - dil) % 104 < 104) :
    slabAt V ch (8 * k.val + 4 + dil * kd.val - dil)
        (ix3 z (⟨(h.val + 104 + dil * a.val - dil) % 104, hq⟩ : Fin 104) (⟨(x.val + 104 + dil * b.val - dil) % 104, hr⟩ : Fin 104))
      = padded dil Y ci (8 * k.val + z.val + dil * kd.val) (h.val + dil * a.val) (x.val + dil * b.val) := by
  have hk := k.isLt; have hz := z.isLt; have hh := h.isLt; have hx := x.isLt
  have htk : dil * kd.val ≤ 2 * dil := by rw [Nat.mul_comm 2]; exact Nat.mul_le_mul_left _ (by omega)
  have hta : dil * a.val ≤ 2 * dil := by rw [Nat.mul_comm 2]; exact Nat.mul_le_mul_left _ (by omega)
  have htb : dil * b.val ≤ 2 * dil := by rw [Nat.mul_comm 2]; exact Nat.mul_le_mul_left _ (by omega)
  refine (hV ch ci hch ((8 * k.val + 4 + dil * kd.val - dil + z.val) % 104) (Nat.mod_lt _ (by decide)) _ hq _ hr).trans ?_
  generalize dil * kd.val = tk at *
  generalize dil * a.val = ta at *
  generalize dil * b.val = tb at *
  unfold padded
  by_cases hin : InBlock dil (8 * k.val + z.val + tk) (h.val + ta) (x.val + tb)
  · have hin' := hin
    unfold InBlock at hin'
    rw [if_pos hin, if_pos (by omega)]
    congr 1 <;> omega
  · rw [if_neg hin, if_neg]
    unfold InBlock at hin
    omega

/-- The rotation along the rows, read at a place. -/
theorem rollH_apply (dil : ℕ) (hdil : dil ≤ 4) (y : FVec Ideal S8x104x104 .f32) (a : Fin 3) (z : Fin 8) (q r : Fin 104) :
    rollH dil y a (ix3 z q r) = y (ix3 z (⟨(q.val + 104 + dil * a.val - dil) % 104, Nat.mod_lt _ (by decide)⟩ : Fin 104) r) := by
  have hq := q.isLt
  fin_cases a
  · show dynamicRotate 1 (BitVec.ofNat 32 dil) none y Facts₀.rotates_S8x104x104_d1 _ = _
    rw [Pointwise.dynamicRotate_apply]
    refine congrArg y (funext fun i => ?_)
    fin_cases i
    · rfl
    · refine Fin.ext ?_
      show (q.val + 104 - ((BitVec.ofNat 32 dil).toNat + 0) % 104) % 104 = (q.val + 104 + dil * 0 - dil) % 104
      rw [BitVec.toNat_ofNat, Nat.mod_eq_of_lt (show dil < 2 ^ 32 by omega)]
      omega
    · rfl
  · refine congrArg y (funext fun i => ?_)
    fin_cases i
    · rfl
    · refine Fin.ext ?_
      show q.val = (q.val + 104 + dil * 1 - dil) % 104
      omega
    · rfl
  · show dynamicRotate 1 (BitVec.ofNat 32 (104 - dil)) none y Facts₀.rotates_S8x104x104_d1 _ = _
    rw [Pointwise.dynamicRotate_apply]
    refine congrArg y (funext fun i => ?_)
    fin_cases i
    · rfl
    · refine Fin.ext ?_
      show (q.val + 104 - ((BitVec.ofNat 32 (104 - dil)).toNat + 0) % 104) % 104 = (q.val + 104 + dil * 2 - dil) % 104
      rw [BitVec.toNat_ofNat, Nat.mod_eq_of_lt (show 104 - dil < 2 ^ 32 by omega)]
      omega
    · rfl

/-- The rotation along the columns, read at a place. -/
theorem rollW_apply (dil : ℕ) (hdil : dil ≤ 4) (y : FVec Ideal S8x104x104 .f32) (b : Fin 3) (z : Fin 8) (q r : Fin 104) :
    rollW dil y b (ix3 z q r) = y (ix3 z q (⟨(r.val + 104 + dil * b.val - dil) % 104, Nat.mod_lt _ (by decide)⟩ : Fin 104)) := by
  have hr := r.isLt
  fin_cases b
  · show dynamicRotate 2 (BitVec.ofNat 32 dil) none y Facts₀.rotates_S8x104x104_d2 _ = _
    rw [Pointwise.dynamicRotate_apply]
    refine congrArg y (funext fun i => ?_)
    fin_cases i
    · rfl
    · rfl
    · refine Fin.ext ?_
      show (r.val + 104 - ((BitVec.ofNat 32 dil).toNat + 0) % 104) % 104 = (r.val + 104 + dil * 0 - dil) % 104
      rw [BitVec.toNat_ofNat, Nat.mod_eq_of_lt (show dil < 2 ^ 32 by omega)]
      omega
  · refine congrArg y (funext fun i => ?_)
    fin_cases i
    · rfl
    · rfl
    · refine Fin.ext ?_
      show r.val = (r.val + 104 + dil * 1 - dil) % 104
      omega
  · show dynamicRotate 2 (BitVec.ofNat 32 (104 - dil)) none y Facts₀.rotates_S8x104x104_d2 _ = _
    rw [Pointwise.dynamicRotate_apply]
    refine congrArg y (funext fun i => ?_)
    fin_cases i
    · rfl
    · rfl
    · refine Fin.ext ?_
      show (r.val + 104 - ((BitVec.ofNat 32 (104 - dil)).toNat + 0) % 104) % 104 = (r.val + 104 + dil * 2 - dil) % 104
      rw [BitVec.toNat_ofNat, Nat.mod_eq_of_lt (show 104 - dil < 2 ^ 32 by omega)]
      omega

/-- One product, read at a place. -/
theorem tapProd_apply (dil : ℕ) (hdil : dil ≤ 4) (y : FVec Ideal S8x104x104 .f32) (w : Fin 3 → Fin 3 → Elt Ideal .f32) (a b : Fin 3)
    (z : Fin 8) (q r : Fin 104) :
    tapProd dil y w a b (ix3 z q r)
      = ((w a b : EReal) * (y (ix3 z (⟨(q.val + 104 + dil * a.val - dil) % 104, Nat.mod_lt _ (by decide)⟩ : Fin 104)
          (⟨(r.val + 104 + dil * b.val - dil) % 104, Nat.mod_lt _ (by decide)⟩ : Fin 104)) : EReal) : EReal) := by
  show (w a b : EReal) * (rollW dil (rollH dil y a) b (ix3 z q r) : EReal) = _
  rw [rollW_apply dil hdil, rollH_apply dil hdil]

/-- The sum of nine, read at a place. -/
theorem nine_apply (dil : ℕ) (hdil : dil ≤ 4) (y : FVec Ideal S8x104x104 .f32) (w : Fin 3 → Fin 3 → Elt Ideal .f32)
    (acc : FVec Ideal S8x104x104 .f32) (z : Fin 8) (q r : Fin 104) :
    nine dil y w acc (ix3 z q r)
      = ((acc (ix3 z q r) : EReal) + ∑ a : Fin 3, ∑ b : Fin 3,
          (w a b : EReal) * (y (ix3 z (⟨(q.val + 104 + dil * a.val - dil) % 104, Nat.mod_lt _ (by decide)⟩ : Fin 104)
            (⟨(r.val + 104 + dil * b.val - dil) % 104, Nat.mod_lt _ (by decide)⟩ : Fin 104)) : EReal) : EReal) := by
  simp only [← tapProd_apply dil hdil, Fin.sum_univ_three]
  show (((((((((acc (ix3 z q r) : EReal) + tapProd dil y w 0 0 (ix3 z q r)) + tapProd dil y w 0 1 (ix3 z q r)) + tapProd dil y w 0 2 (ix3 z q r))
    + tapProd dil y w 1 0 (ix3 z q r)) + tapProd dil y w 1 1 (ix3 z q r)) + tapProd dil y w 1 2 (ix3 z q r))
    + tapProd dil y w 2 0 (ix3 z q r)) + tapProd dil y w 2 1 (ix3 z q r)) + tapProd dil y w 2 2 (ix3 z q r) = _
  simp only [add_assoc]

/-- The weights of a layer of `n` input channels in the flat weights from word `base` on. -/
def weightsAt (n : ℕ) (W : S382.Idx → Elt Ideal .f32) (base : ℕ) : Weights n := fun co ci a b c =>
  word W (27 * (n * co.val + ci.val) + 9 * a.val + 3 * b.val + c.val + base)

/-- One depth tap of one input channel adds that tap's terms of the convolution. -/
theorem nine_keeps {n : ℕ} {V : S2x104x104x104.Idx → Elt Ideal .f32} {Y : Block n} (hV : Keeps V Y) (dil : ℕ) (hdil : dil ≤ 4)
    (W : S382.Idx → Elt Ideal .f32) (base : ℕ) (co ch : Fin 2) (ci : Fin n) (hch : ch.val = ci.val) (row : ℕ) (hrow : row = n * co.val + ci.val)
    (k : Fin 12) (kd : Fin 3) (acc : FVec Ideal S8x104x104 .f32) (z : Fin 8) (h x : Fin 96) (hh : h.val < 104) (hx : x.val < 104) :
    nine dil (slabAt V ch (8 * k.val + 4 + dil * kd.val - dil)) (tapWord W base row kd.val) acc (ix3 z (⟨h.val, hh⟩ : Fin 104) (⟨x.val, hx⟩ : Fin 104))
      = ((acc (ix3 z (⟨h.val, hh⟩ : Fin 104) (⟨x.val, hx⟩ : Fin 104)) : EReal)
          + ∑ b : Fin 3, ∑ c : Fin 3, tapTerm dil (weightsAt n W base) Y co (8 * k.val + z.val) h.val x.val ci kd b c : EReal) := by
  rw [nine_apply dil hdil]
  refine congrArg _ (Finset.sum_congr rfl fun a _ => Finset.sum_congr rfl fun b _ => ?_)
  rw [slabAt_keeps hV dil hdil ch ci hch]
  subst hrow
  rfl

/-- The accumulators begin at zero. -/
theorem pay7_apply (j : S8x104x104.Idx) : (k0_pay7 : FVec Ideal S8x104x104 .f32) j = (0 : EReal) := Ideal.ofBits_zero_f32

/-- The channel's half of the accumulators. -/
def half (acc : Acc Ideal) (co : Fin 2) : FVec Ideal S8x104x104 .f32 :=
  match co with
  | 0 => acc.1
  | 1 => acc.2

/-- The three depth taps of a pass over one input channel are the convolution. -/
theorem taps1_apply {V : S2x104x104x104.Idx → Elt Ideal .f32} {Y : Block 1} (hV : Keeps V Y) (dil : ℕ) (hdil : dil ≤ 4)
    (W : S382.Idx → Elt Ideal .f32) (base : ℕ) (k : Fin 12) (co : Fin 2) (z : Fin 8) (h x : Fin 96) (hh : h.val < 104) (hx : x.val < 104) :
    half (taps (tap1 dil base W V k)) co (ix3 z (⟨h.val, hh⟩ : Fin 104) (⟨x.val, hx⟩ : Fin 104))
      = conv dil (weightsAt 1 W base) Y co (8 * k.val + z.val) h.val x.val := by
  rw [← conv_one dil (weightsAt 1 W base) Y co _ _ _ (fun a => ∑ b : Fin 3, ∑ c : Fin 3, tapTerm dil (weightsAt 1 W base) Y co (8 * k.val + z.val) h.val x.val 0 a b c) (fun _ => rfl)]
  fin_cases co
  · show nine dil (slabAt V 0 (8 * k.val + 4 + dil * (2 : Fin 3).val - dil)) (tapWord W base 0 (2 : Fin 3).val)
      (nine dil (slabAt V 0 (8 * k.val + 4 + dil * (1 : Fin 3).val - dil)) (tapWord W base 0 (1 : Fin 3).val)
        (nine dil (slabAt V 0 (8 * k.val + 4 + dil * (0 : Fin 3).val - dil)) (tapWord W base 0 (0 : Fin 3).val) k0_pay7)) _ = _
    simp only [nine_keeps hV dil hdil W base 0 0 0 rfl 0 rfl, pay7_apply]
    rfl
  · show nine dil (slabAt V 0 (8 * k.val + 4 + dil * (2 : Fin 3).val - dil)) (tapWord W base 1 (2 : Fin 3).val)
      (nine dil (slabAt V 0 (8 * k.val + 4 + dil * (1 : Fin 3).val - dil)) (tapWord W base 1 (1 : Fin 3).val)
        (nine dil (slabAt V 0 (8 * k.val + 4 + dil * (0 : Fin 3).val - dil)) (tapWord W base 1 (0 : Fin 3).val) k0_pay7)) _ = _
    simp only [nine_keeps hV dil hdil W base 1 0 0 rfl 1 rfl, pay7_apply]
    rfl

/-- The three depth taps of a pass over two input channels are the convolution. -/
theorem taps2_apply {V : S2x104x104x104.Idx → Elt Ideal .f32} {Y : Block 2} (hV : Keeps V Y) (dil : ℕ) (hdil : dil ≤ 4)
    (W : S382.Idx → Elt Ideal .f32) (base : ℕ) (k : Fin 12) (co : Fin 2) (z : Fin 8) (h x : Fin 96) (hh : h.val < 104) (hx : x.val < 104) :
    half (taps (tap2 dil base W V k)) co (ix3 z (⟨h.val, hh⟩ : Fin 104) (⟨x.val, hx⟩ : Fin 104))
      = conv dil (weightsAt 2 W base) Y co (8 * k.val + z.val) h.val x.val := by
  rw [← conv_two dil (weightsAt 2 W base) Y co _ _ _ (fun ci a => ∑ b : Fin 3, ∑ c : Fin 3, tapTerm dil (weightsAt 2 W base) Y co (8 * k.val + z.val) h.val x.val ci a b c) (fun _ _ => rfl)]
  fin_cases co
  · show nine dil (slabAt V 1 (8 * k.val + 4 + dil * (2 : Fin 3).val - dil)) (tapWord W base 1 (2 : Fin 3).val)
      (nine dil (slabAt V 0 (8 * k.val + 4 + dil * (2 : Fin 3).val - dil)) (tapWord W base 0 (2 : Fin 3).val)
      (nine dil (slabAt V 1 (8 * k.val + 4 + dil * (1 : Fin 3).val - dil)) (tapWord W base 1 (1 : Fin 3).val)
      (nine dil (slabAt V 0 (8 * k.val + 4 + dil * (1 : Fin 3).val - dil)) (tapWord W base 0 (1 : Fin 3).val)
      (nine dil (slabAt V 1 (8 * k.val + 4 + dil * (0 : Fin 3).val - dil)) (tapWord W base 1 (0 : Fin 3).val)
        (nine dil (slabAt V 0 (8 * k.val + 4 + dil * (0 : Fin 3).val - dil)) (tapWord W base 0 (0 : Fin 3).val) k0_pay7))))) _ = _
    simp only [nine_keeps hV dil hdil W base 0 0 0 rfl 0 rfl, nine_keeps hV dil hdil W base 0 1 1 rfl 1 rfl, pay7_apply]
    rfl
  · show nine dil (slabAt V 1 (8 * k.val + 4 + dil * (2 : Fin 3).val - dil)) (tapWord W base 3 (2 : Fin 3).val)
      (nine dil (slabAt V 0 (8 * k.val + 4 + dil * (2 : Fin 3).val - dil)) (tapWord W base 2 (2 : Fin 3).val)
      (nine dil (slabAt V 1 (8 * k.val + 4 + dil * (1 : Fin 3).val - dil)) (tapWord W base 3 (1 : Fin 3).val)
      (nine dil (slabAt V 0 (8 * k.val + 4 + dil * (1 : Fin 3).val - dil)) (tapWord W base 2 (1 : Fin 3).val)
      (nine dil (slabAt V 1 (8 * k.val + 4 + dil * (0 : Fin 3).val - dil)) (tapWord W base 3 (0 : Fin 3).val)
        (nine dil (slabAt V 0 (8 * k.val + 4 + dil * (0 : Fin 3).val - dil)) (tapWord W base 2 (0 : Fin 3).val) k0_pay7))))) _ = _
    simp only [nine_keeps hV dil hdil W base 1 0 0 rfl 2 rfl, nine_keeps hV dil hdil W base 1 1 1 rfl 3 rfl, pay7_apply]
    rfl

/-! ## What a pass stores -/

/-- The word zero as a float. -/
theorem sitofp_zero : (FloatOps.sitofp .f32 (0#32) : Ideal .f32) = 0 := by
  show (((0#32 : BitVec 32).toInt : ℝ) : EReal) = 0
  simp

/-- The word one as a float. -/
theorem sitofp_one : (FloatOps.sitofp .f32 (1#32) : Ideal .f32) = 1 := by
  show (((1#32 : BitVec 32).toInt : ℝ) : EReal) = 1
  simp

/-- The mask the kernel computes from a vector of voxels. -/
theorem pay11_apply (v : Vec Ideal S8x96x96 .f32) (j : S8x96x96.Idx) : k0_pay11 v j = maskOf (v j) := by
  unfold k0_pay11 maskOf
  simp only [pointwise]
  by_cases hv : (v j : EReal) = 0
  · simp [Ideal.cmp, hv]
    exact sitofp_zero
  · simp [Ideal.cmp, hv]
    exact sitofp_one

/-- The voxels of an array as a block of one channel. -/
def voxels (D : S96x96x96.Idx → Elt Ideal .f32) : Block 1 := fun _ d h x =>
  D (ix3 (⟨d % 96, Nat.mod_lt _ (by decide)⟩ : Fin 96) (⟨h % 96, Nat.mod_lt _ (by decide)⟩ : Fin 96) (⟨x % 96, Nat.mod_lt _ (by decide)⟩ : Fin 96))

/-- The planes of a slab are voxels. -/
theorem planes_apply (D : S96x96x96.Idx → Elt Ideal .f32) (k : Fin 12) (z : Fin 8) (h x : Fin 96) :
    planes D k (ix3 z h x) = voxels D 0 (8 * k.val + z.val) h.val x.val := by
  refine congrArg D (funext fun i => ?_)
  have hh := h.isLt; have hx := x.isLt
  fin_cases i
  · rfl
  · exact Fin.ext (Nat.mod_eq_of_lt hh).symm
  · exact Fin.ext (Nat.mod_eq_of_lt hx).symm

/-- The accumulator's inside, cut at zero and masked. -/
def cut (v : Vec Ideal S8x96x96 .f32) (acc : FVec Ideal S8x104x104 .f32) (z : Fin 8) (h x : Fin 96) : EReal :=
  maskOf (v (ix3 z h x)) * max (acc (ix3 z (⟨h.val, by omega⟩ : Fin 104) (⟨x.val, by omega⟩ : Fin 104)) : EReal) 0

/-- What a pass stores for one accumulator. -/
theorem pay12_apply (acc : FVec Ideal S8x104x104 .f32) (v : Vec Ideal S8x96x96 .f32) (z : Fin 8) (h x : Fin 96) :
    k0_pay12 acc v (ix4 (0 : Fin 1) z h x) = cut v acc z h x := by
  unfold k0_pay12 cut
  simp only [pointwise, pay11_apply]
  simp

/-- What the last pass keeps of its first accumulator. -/
theorem pay143_apply (acc : FVec Ideal S8x104x104 .f32) (v : Vec Ideal S8x96x96 .f32) (z : Fin 8) (h x : Fin 96) :
    k0_pay143 acc v (ix3 z h x) = cut v acc z h x := by
  unfold k0_pay143 cut
  rw [show (k0_pay142 v : FVec Ideal S8x96x96 .f32) = k0_pay11 v from rfl]
  simp only [pointwise, pay11_apply]
  simp

/-- What the last pass keeps of its second accumulator. -/
theorem pay144_apply (acc : FVec Ideal S8x104x104 .f32) (v : Vec Ideal S8x96x96 .f32) (z : Fin 8) (h x : Fin 96) :
    k0_pay144 acc v (ix3 z h x) = cut v acc z h x := pay143_apply acc v z h x

/-- A volume stored by a pass whose accumulators are a convolution keeps the layer. -/
theorem volume_keeps {n : ℕ} (D : S96x96x96.Idx → Elt Ideal .f32) (acc : Fin 12 → Acc Ideal) (dil : ℕ) (w : Weights n) (Y : Block n)
    (hacc : ∀ (k : Fin 12) (co : Fin 2) (z : Fin 8) (h x : Fin 96) (hh : h.val < 104) (hx : x.val < 104),
      half (acc k) co (ix3 z (⟨h.val, hh⟩ : Fin 104) (⟨x.val, hx⟩ : Fin 104)) = conv dil w Y co (8 * k.val + z.val) h.val x.val) :
    Keeps (volume (stored acc D)) (layer dil w (voxels D) Y) := by
  intro ch ci hch p hp q hq r hr
  obtain rfl : ch = ci := Fin.ext hch
  by_cases hin : 4 ≤ p ∧ p < 100 ∧ q < 96 ∧ r < 96
  · rw [if_pos hin]
    unfold volume
    rw [if_pos (show inner (ix4 ch (⟨p, hp⟩ : Fin 104) (⟨q, hq⟩ : Fin 104) (⟨r, hr⟩ : Fin 104)) from hin)]
    have e : ∀ (k : Fin 12) (z : Fin 8) (h x : Fin 96), 8 * k.val + z.val = p - 4 → h.val = q → x.val = r →
        stored acc D ch k (ix4 (0 : Fin 1) z h x) = layer dil w (voxels D) Y ch (p - 4) q r := by
      intro k z h x e1 e2 e3
      have hs : stored acc D ch k (ix4 (0 : Fin 1) z h x) = cut (planes D k) (half (acc k) ch) z h x := by
        fin_cases ch
        · exact pay12_apply _ _ _ _ _
        · exact pay12_apply _ _ _ _ _
      rw [hs]
      unfold cut layer
      rw [planes_apply, hacc, e1, e2, e3]
    refine e _ _ _ _ ?_ ?_ ?_
    · show 8 * ((p - 4) / 8 % 12) + (p - 4) % 8 = p - 4
      omega
    · show q % 96 = q
      omega
    · show r % 96 = r
      omega
  · rw [if_neg hin]
    unfold volume
    rw [if_neg (show ¬ inner (ix4 ch (⟨p, hp⟩ : Fin 104) (⟨q, hq⟩ : Fin 104) (⟨r, hr⟩ : Fin 104)) from hin)]
    exact zero32_ideal

/-- The volume before the first pass keeps the voxels. -/
theorem vol0_keeps (D : S96x96x96.Idx → Elt Ideal .f32) : Keeps (vol0 D) (voxels D) := by
  intro ch ci hch p hp q hq r hr
  obtain rfl : ci = 0 := Subsingleton.elim _ _
  obtain rfl : ch = 0 := Fin.ext hch
  unfold vol0
  by_cases hin : 4 ≤ p ∧ p < 100 ∧ q < 96 ∧ r < 96
  · rw [if_pos hin]
    refine (if_pos ?_).trans ?_
    · exact ⟨rfl, hin⟩
    · rfl
  · rw [if_neg hin]
    refine (if_neg ?_).trans zero32_ideal
    exact fun h => hin h.2

/-! ## The passes -/

variable (D : S96x96x96.Idx → Elt Ideal .f32) (W : S382.Idx → Elt Ideal .f32)

/-- The first volume keeps the first layer. -/
theorem vol1_keeps : Keeps (vol1 D W) (layer 1 (weightsAt 1 W 0) (voxels D) (voxels D)) :=
  volume_keeps D (acc1 D W) 1 (weightsAt 1 W 0) (voxels D)
    fun k co z h x hh hx => taps1_apply (vol0_keeps D) 1 (by decide) W 0 k co z h x hh hx

/-- The second volume keeps the second layer. -/
theorem vol2_keeps : Keeps (vol2 D W) (layer 2 (weightsAt 2 W 54) (voxels D) (layer 1 (weightsAt 1 W 0) (voxels D) (voxels D))) :=
  volume_keeps D (acc2 D W) 2 (weightsAt 2 W 54) _
    fun k co z h x hh hx => taps2_apply (vol1_keeps D W) 2 (by decide) W 54 k co z h x hh hx

/-- The third volume keeps the third layer. -/
theorem vol3_keeps : Keeps (vol3 D W)
    (layer 4 (weightsAt 2 W 162) (voxels D) (layer 2 (weightsAt 2 W 54) (voxels D) (layer 1 (weightsAt 1 W 0) (voxels D) (voxels D)))) :=
  volume_keeps D (acc3 D W) 4 (weightsAt 2 W 162) _
    fun k co z h x hh hx => taps2_apply (vol2_keeps D W) 4 (by decide) W 162 k co z h x hh hx

/-- The encoder with the flat weights. -/
def flatEncoder : Block 2 :=
  encoder (weightsAt 1 W 0) (weightsAt 2 W 54) (weightsAt 2 W 162) (weightsAt 2 W 270) (voxels D)

/-- The last pass cuts and masks the fourth layer. -/
theorem cut_acc4 (k : Fin 12) (co : Fin 2) (z : Fin 8) (h x : Fin 96) :
    cut (planes D k) (half (acc4 D W k) co) z h x = flatEncoder D W co (8 * k.val + z.val) h.val x.val := by
  unfold cut
  rw [planes_apply, show half (acc4 D W k) co _ = _ from taps2_apply (vol3_keeps D W) 2 (by decide) W 270 k co z h x _ _]
  rfl

/-- A result of the kernel is the masked sigmoid of the encoder. -/
theorem result_apply (n : ℕ) (d h x : Fin 96) :
    result D W n (ix3 d h x) = sigmoidHead (word W n) (word W (n + 1)) (voxels D) (flatEncoder D W) d.val h.val x.val := by
  have hd := d.isLt
  show head D W n ⟨d.val / 8 % 12, _⟩ (ix3 (⟨d.val % 8, _⟩ : Fin 8) h x) = _
  have e : ∀ (k : Fin 12) (z : Fin 8), 8 * k.val + z.val = d.val →
      head D W n k (ix3 z h x) = sigmoidHead (word W n) (word W (n + 1)) (voxels D) (flatEncoder D W) d.val h.val x.val := by
    intro k z e
    unfold head k0_pay146 sigmoidHead
    rw [← e, ← div_divisor]
    rw [show (k0_pay142 (planes D k) : FVec Ideal S8x96x96 .f32) = k0_pay11 (planes D k) from rfl]
    simp only [pointwise, pay11_apply, pay143_apply, pay144_apply]
    rw [planes_apply, show (acc4 D W k).1 = half (acc4 D W k) 0 from rfl, show (acc4 D W k).2 = half (acc4 D W k) 1 from rfl, cut_acc4, cut_acc4]
    simp
  exact e _ _ (by show 8 * (d.val / 8 % 12) + d.val % 8 = d.val; omega)

end Cert.Proof.Enc

end
-- ==== Proof.Stack.lean ====
module

public import proofs.«01_k».proof.Proof.Layer
public import Idealize.ShloMosaic.PureOps.Ideal.Laws
public import Idealize.ShloMosaic.Lib.Pointwise
public import Idealize.ShloMosaic.Lib.KernelVsHost
public import Idealize.ShloMosaic.Lib.Pipeline.Value

/-!
How a textbook convolution lays out its windows.

A padded array of two batches, `n` channels and three axes of `P` words is cut, axis by axis from the last to the first,
into three overlapping slices of 96 that are stacked on a new axis of three.  The result, read at its eight coordinates, is
the padded array at each coordinate moved by the tap's offset.
-/

@[expose] public section

set_option maxRecDepth 16384

noncomputable section

namespace Cert.Proof

open Idealize.ShloMosaic
open scoped BigOperators

variable {α : Type} {n P : ℕ}

/-- The offset of tap `c` among three. -/
abbrev pick (o0 o1 o2 : ℕ) (c : Fin 3) : ℕ := match c with | 0 => o0 | 1 => o1 | 2 => o2

/-- Three unit pieces stacked on an axis: at coordinate `c` of the axis the stack is piece `c`. -/
theorem stack_three {s t : Shape} (a : Fin t.rank) (y0 y1 y2 : s.Idx → α) (h : Shape.Concatenates [s, s, s] t a) (j : t.Idx)
    (hr : s.rank = t.rank) (hone : s.size (a.cast hr.symm) = 1) (c : Fin 3) (hc : (j a).val = c.val) (i : s.Idx)
    (hi : ∀ b : Fin s.rank, b.cast hr ≠ a → (i b).val = (j (b.cast hr)).val) :
    concatenate t a [⟨s, y0⟩, ⟨s, y1⟩, ⟨s, y2⟩] h j = (match c with | 0 => y0 | 1 => y1 | 2 => y2) i := by
  have hi0 : (i (a.cast hr.symm)).val = 0 := by
    have := (i (a.cast hr.symm)).isLt
    omega
  have L : [(⟨s, y0⟩ : (s : Shape) × (s.Idx → α)), ⟨s, y1⟩, ⟨s, y2⟩].length = 3 := rfl
  have hsz : (if h : s.rank = t.rank then s.size (a.cast h.symm) else 0) = 1 := by rw [dif_pos hr, hone]
  fin_cases c
  · refine concatenate_apply_piece (t := t) a [⟨s, y0⟩, ⟨s, y1⟩, ⟨s, y2⟩] h j 0 (by rw [L]; decide) s y0 rfl hr 0 rfl i hi ?_
    rw [hi0, hc]
  · refine concatenate_apply_piece (t := t) a [⟨s, y0⟩, ⟨s, y1⟩, ⟨s, y2⟩] h j 1 (by rw [L]; decide) s y1 rfl hr 1 ?_ i hi ?_
    · show (if h : s.rank = t.rank then s.size (a.cast h.symm) else 0) + 0 = 1
      rw [hsz]
    · rw [hi0, hc]
  · refine concatenate_apply_piece (t := t) a [⟨s, y0⟩, ⟨s, y1⟩, ⟨s, y2⟩] h j 2 (by rw [L]; decide) s y2 rfl hr 2 ?_ i hi ?_
    · show (if h : s.rank = t.rank then s.size (a.cast h.symm) else 0) + ((if h : s.rank = t.rank then s.size (a.cast h.symm) else 0) + 0) = 2
      rw [hsz]
    · rw [hi0, hc]

/-- Three slices of the last axis, stacked. -/
theorem stack_last (x : (⟨5, ![2, n, P, P, P]⟩ : Shape).Idx → α) (o0 o1 o2 : ℕ)
    (s0 : (⟨5, ![2, n, P, P, P]⟩ : Shape).Slices ![0, 0, 0, 0, o0] ⟨5, ![2, n, P, P, 96]⟩)
    (s1 : (⟨5, ![2, n, P, P, P]⟩ : Shape).Slices ![0, 0, 0, 0, o1] ⟨5, ![2, n, P, P, 96]⟩)
    (s2 : (⟨5, ![2, n, P, P, P]⟩ : Shape).Slices ![0, 0, 0, 0, o2] ⟨5, ![2, n, P, P, 96]⟩)
    (hb : (⟨5, ![2, n, P, P, 96]⟩ : Shape).BroadcastsInDim ⟨6, ![2, n, P, P, 1, 96]⟩ ![0, 1, 2, 3, 5])
    (hc : Shape.Concatenates [⟨6, ![2, n, P, P, 1, 96]⟩, ⟨6, ![2, n, P, P, 1, 96]⟩, ⟨6, ![2, n, P, P, 1, 96]⟩] ⟨6, ![2, n, P, P, 3, 96]⟩ 4)
    (i : Fin 2) (ci : Fin n) (p q : Fin P) (c : Fin 3) (w : Fin 96) (hw : pick o0 o1 o2 c + w.val < P) :
    concatenate ⟨6, ![2, n, P, P, 3, 96]⟩ 4
      [⟨⟨6, ![2, n, P, P, 1, 96]⟩, broadcastInDim ⟨6, ![2, n, P, P, 1, 96]⟩ ![0, 1, 2, 3, 5] hb (extractStridedSlice ⟨5, ![2, n, P, P, 96]⟩ ![0, 0, 0, 0, o0] x s0)⟩,
       ⟨⟨6, ![2, n, P, P, 1, 96]⟩, broadcastInDim ⟨6, ![2, n, P, P, 1, 96]⟩ ![0, 1, 2, 3, 5] hb (extractStridedSlice ⟨5, ![2, n, P, P, 96]⟩ ![0, 0, 0, 0, o1] x s1)⟩,
       ⟨⟨6, ![2, n, P, P, 1, 96]⟩, broadcastInDim ⟨6, ![2, n, P, P, 1, 96]⟩ ![0, 1, 2, 3, 5] hb (extractStridedSlice ⟨5, ![2, n, P, P, 96]⟩ ![0, 0, 0, 0, o2] x s2)⟩]
      hc (ix6 i ci p q c w)
      = x (ix5 i ci p q (⟨pick o0 o1 o2 c + w.val, hw⟩ : Fin P)) := by
  have hp := p.isLt; have hq := q.isLt; have hci := ci.isLt
  have one : ∀ (o : ℕ) (s : (⟨5, ![2, n, P, P, P]⟩ : Shape).Slices ![0, 0, 0, 0, o] ⟨5, ![2, n, P, P, 96]⟩) (ho : o + w.val < P),
      broadcastInDim ⟨6, ![2, n, P, P, 1, 96]⟩ ![0, 1, 2, 3, 5] hb (extractStridedSlice ⟨5, ![2, n, P, P, 96]⟩ ![0, 0, 0, 0, o] x s)
        (ix6 i ci p q (0 : Fin 1) w) = x (ix5 i ci p q (⟨o + w.val, ho⟩ : Fin P)) := by
    intro o s ho
    rw [broadcastInDim_apply (k := ix5 i ci p q w), extractStridedSlice_apply (k := ix5 i ci p q (⟨o + w.val, ho⟩ : Fin P))]
    · intro a; fin_cases a
      · exact (Nat.zero_add _).symm
      · exact (Nat.zero_add _).symm
      · exact (Nat.zero_add _).symm
      · exact (Nat.zero_add _).symm
      · rfl
    · intro a; fin_cases a
      · rfl
      · show ci.val = if n = 1 then 0 else ci.val
        split <;> omega
      · show p.val = if P = 1 then 0 else p.val
        split <;> omega
      · show q.val = if P = 1 then 0 else q.val
        split <;> omega
      · rfl
  refine (stack_three (s := ⟨6, ![2, n, P, P, 1, 96]⟩) (t := ⟨6, ![2, n, P, P, 3, 96]⟩) 4 _ _ _ hc _ rfl rfl c rfl (ix6 i ci p q (0 : Fin 1) w) ?_).trans ?_
  · intro b hb'; fin_cases b <;> first | rfl | exact absurd rfl hb'
  · fin_cases c
    · exact one o0 s0 hw
    · exact one o1 s1 hw
    · exact one o2 s2 hw

/-- Three slices of the fourth axis of the result so far, stacked before it. -/
theorem stack_mid (x : (⟨6, ![2, n, P, P, 3, 96]⟩ : Shape).Idx → α) (o0 o1 o2 : ℕ)
    (s0 : (⟨6, ![2, n, P, P, 3, 96]⟩ : Shape).Slices ![0, 0, 0, o0, 0, 0] ⟨6, ![2, n, P, 96, 3, 96]⟩)
    (s1 : (⟨6, ![2, n, P, P, 3, 96]⟩ : Shape).Slices ![0, 0, 0, o1, 0, 0] ⟨6, ![2, n, P, 96, 3, 96]⟩)
    (s2 : (⟨6, ![2, n, P, P, 3, 96]⟩ : Shape).Slices ![0, 0, 0, o2, 0, 0] ⟨6, ![2, n, P, 96, 3, 96]⟩)
    (hb : (⟨6, ![2, n, P, 96, 3, 96]⟩ : Shape).BroadcastsInDim ⟨7, ![2, n, P, 1, 96, 3, 96]⟩ ![0, 1, 2, 4, 5, 6])
    (hc : Shape.Concatenates [⟨7, ![2, n, P, 1, 96, 3, 96]⟩, ⟨7, ![2, n, P, 1, 96, 3, 96]⟩, ⟨7, ![2, n, P, 1, 96, 3, 96]⟩]
      ⟨7, ![2, n, P, 3, 96, 3, 96]⟩ 3)
    (i : Fin 2) (ci : Fin n) (p : Fin P) (b : Fin 3) (v : Fin 96) (c : Fin 3) (w : Fin 96) (hv : pick o0 o1 o2 b + v.val < P) :
    concatenate ⟨7, ![2, n, P, 3, 96, 3, 96]⟩ 3
      [⟨⟨7, ![2, n, P, 1, 96, 3, 96]⟩, broadcastInDim ⟨7, ![2, n, P, 1, 96, 3, 96]⟩ ![0, 1, 2, 4, 5, 6] hb (extractStridedSlice ⟨6, ![2, n, P, 96, 3, 96]⟩ ![0, 0, 0, o0, 0, 0] x s0)⟩,
       ⟨⟨7, ![2, n, P, 1, 96, 3, 96]⟩, broadcastInDim ⟨7, ![2, n, P, 1, 96, 3, 96]⟩ ![0, 1, 2, 4, 5, 6] hb (extractStridedSlice ⟨6, ![2, n, P, 96, 3, 96]⟩ ![0, 0, 0, o1, 0, 0] x s1)⟩,
       ⟨⟨7, ![2, n, P, 1, 96, 3, 96]⟩, broadcastInDim ⟨7, ![2, n, P, 1, 96, 3, 96]⟩ ![0, 1, 2, 4, 5, 6] hb (extractStridedSlice ⟨6, ![2, n, P, 96, 3, 96]⟩ ![0, 0, 0, o2, 0, 0] x s2)⟩]
      hc (ix7 i ci p b v c w)
      = x (ix6 i ci p (⟨pick o0 o1 o2 b + v.val, hv⟩ : Fin P) c w) := by
  have hp := p.isLt; have hci := ci.isLt
  have one : ∀ (o : ℕ) (s : (⟨6, ![2, n, P, P, 3, 96]⟩ : Shape).Slices ![0, 0, 0, o, 0, 0] ⟨6, ![2, n, P, 96, 3, 96]⟩) (ho : o + v.val < P),
      broadcastInDim ⟨7, ![2, n, P, 1, 96, 3, 96]⟩ ![0, 1, 2, 4, 5, 6] hb (extractStridedSlice ⟨6, ![2, n, P, 96, 3, 96]⟩ ![0, 0, 0, o, 0, 0] x s)
        (ix7 i ci p (0 : Fin 1) v c w) = x (ix6 i ci p (⟨o + v.val, ho⟩ : Fin P) c w) := by
    intro o s ho
    rw [broadcastInDim_apply (k := ix6 i ci p v c w), extractStridedSlice_apply (k := ix6 i ci p (⟨o + v.val, ho⟩ : Fin P) c w)]
    · intro a; fin_cases a
      · exact (Nat.zero_add _).symm
      · exact (Nat.zero_add _).symm
      · exact (Nat.zero_add _).symm
      · rfl
      · exact (Nat.zero_add _).symm
      · exact (Nat.zero_add _).symm
    · intro a; fin_cases a
      · rfl
      · show ci.val = if n = 1 then 0 else ci.val
        split <;> omega
      · show p.val = if P = 1 then 0 else p.val
        split <;> omega
      · rfl
      · rfl
      · rfl
  refine (stack_three (s := ⟨7, ![2, n, P, 1, 96, 3, 96]⟩) (t := ⟨7, ![2, n, P, 3, 96, 3, 96]⟩) 3 _ _ _ hc _ rfl rfl b rfl
    (ix7 i ci p (0 : Fin 1) v c w) ?_).trans ?_
  · intro b hb'; fin_cases b <;> first | rfl | exact absurd rfl hb'
  · fin_cases b
    · exact one o0 s0 hv
    · exact one o1 s1 hv
    · exact one o2 s2 hv

/-- Three slices of the third axis of the result so far, stacked before it. -/
theorem stack_first (x : (⟨7, ![2, n, P, 3, 96, 3, 96]⟩ : Shape).Idx → α) (o0 o1 o2 : ℕ)
    (s0 : (⟨7, ![2, n, P, 3, 96, 3, 96]⟩ : Shape).Slices ![0, 0, o0, 0, 0, 0, 0] ⟨7, ![2, n, 96, 3, 96, 3, 96]⟩)
    (s1 : (⟨7, ![2, n, P, 3, 96, 3, 96]⟩ : Shape).Slices ![0, 0, o1, 0, 0, 0, 0] ⟨7, ![2, n, 96, 3, 96, 3, 96]⟩)
    (s2 : (⟨7, ![2, n, P, 3, 96, 3, 96]⟩ : Shape).Slices ![0, 0, o2, 0, 0, 0, 0] ⟨7, ![2, n, 96, 3, 96, 3, 96]⟩)
    (hb : (⟨7, ![2, n, 96, 3, 96, 3, 96]⟩ : Shape).BroadcastsInDim ⟨8, ![2, n, 1, 96, 3, 96, 3, 96]⟩ ![0, 1, 3, 4, 5, 6, 7])
    (hc : Shape.Concatenates [⟨8, ![2, n, 1, 96, 3, 96, 3, 96]⟩, ⟨8, ![2, n, 1, 96, 3, 96, 3, 96]⟩, ⟨8, ![2, n, 1, 96, 3, 96, 3, 96]⟩]
      ⟨8, ![2, n, 3, 96, 3, 96, 3, 96]⟩ 2)
    (i : Fin 2) (ci : Fin n) (a : Fin 3) (u : Fin 96) (b : Fin 3) (v : Fin 96) (c : Fin 3) (w : Fin 96) (hu : pick o0 o1 o2 a + u.val < P) :
    concatenate ⟨8, ![2, n, 3, 96, 3, 96, 3, 96]⟩ 2
      [⟨⟨8, ![2, n, 1, 96, 3, 96, 3, 96]⟩, broadcastInDim ⟨8, ![2, n, 1, 96, 3, 96, 3, 96]⟩ ![0, 1, 3, 4, 5, 6, 7] hb (extractStridedSlice ⟨7, ![2, n, 96, 3, 96, 3, 96]⟩ ![0, 0, o0, 0, 0, 0, 0] x s0)⟩,
       ⟨⟨8, ![2, n, 1, 96, 3, 96, 3, 96]⟩, broadcastInDim ⟨8, ![2, n, 1, 96, 3, 96, 3, 96]⟩ ![0, 1, 3, 4, 5, 6, 7] hb (extractStridedSlice ⟨7, ![2, n, 96, 3, 96, 3, 96]⟩ ![0, 0, o1, 0, 0, 0, 0] x s1)⟩,
       ⟨⟨8, ![2, n, 1, 96, 3, 96, 3, 96]⟩, broadcastInDim ⟨8, ![2, n, 1, 96, 3, 96, 3, 96]⟩ ![0, 1, 3, 4, 5, 6, 7] hb (extractStridedSlice ⟨7, ![2, n, 96, 3, 96, 3, 96]⟩ ![0, 0, o2, 0, 0, 0, 0] x s2)⟩]
      hc (ix8 i ci a u b v c w)
      = x (ix7 i ci (⟨pick o0 o1 o2 a + u.val, hu⟩ : Fin P) b v c w) := by
  have hci := ci.isLt
  have one : ∀ (o : ℕ) (s : (⟨7, ![2, n, P, 3, 96, 3, 96]⟩ : Shape).Slices ![0, 0, o, 0, 0, 0, 0] ⟨7, ![2, n, 96, 3, 96, 3, 96]⟩) (ho : o + u.val < P),
      broadcastInDim ⟨8, ![2, n, 1, 96, 3, 96, 3, 96]⟩ ![0, 1, 3, 4, 5, 6, 7] hb (extractStridedSlice ⟨7, ![2, n, 96, 3, 96, 3, 96]⟩ ![0, 0, o, 0, 0, 0, 0] x s)
        (ix8 i ci (0 : Fin 1) u b v c w) = x (ix7 i ci (⟨o + u.val, ho⟩ : Fin P) b v c w) := by
    intro o s ho
    rw [broadcastInDim_apply (k := ix7 i ci u b v c w), extractStridedSlice_apply (k := ix7 i ci (⟨o + u.val, ho⟩ : Fin P) b v c w)]
    · intro a; fin_cases a
      · exact (Nat.zero_add _).symm
      · exact (Nat.zero_add _).symm
      · rfl
      · exact (Nat.zero_add _).symm
      · exact (Nat.zero_add _).symm
      · exact (Nat.zero_add _).symm
      · exact (Nat.zero_add _).symm
    · intro a; fin_cases a
      · rfl
      · show ci.val = if n = 1 then 0 else ci.val
        split <;> omega
      · rfl
      · rfl
      · rfl
      · rfl
      · rfl
  refine (stack_three (s := ⟨8, ![2, n, 1, 96, 3, 96, 3, 96]⟩) (t := ⟨8, ![2, n, 3, 96, 3, 96, 3, 96]⟩) 2 _ _ _ hc _ rfl rfl a rfl
    (ix8 i ci (0 : Fin 1) u b v c w) ?_).trans ?_
  · intro b hb'; fin_cases b <;> first | rfl | exact absurd rfl hb'
  · fin_cases a
    · exact one o0 s0 hu
    · exact one o1 s1 hu
    · exact one o2 s2 hu

end Cert.Proof

end
-- ==== Proof.Window.lean ====
module

public import proofs.«01_k».proof.Proof.Layer
public import Idealize.ShloMosaic.PureOps.Ideal.Laws
public import Idealize.ShloMosaic.Lib.Pointwise
public import Idealize.ShloMosaic.Lib.KernelVsHost
public import Idealize.ShloMosaic.Lib.Pipeline.Value

/-!
The padding around a textbook convolution, and its contraction over a channel and three taps.
-/

@[expose] public section

set_option maxRecDepth 16384

noncomputable section

namespace Cert.Proof

open Idealize.ShloMosaic
open scoped BigOperators

variable {n : ℕ}

/-- A batch padded by `dil` zeros on each side of its three axes is the padded block. -/
theorem pad_apply_padded (dil P : ℕ) (hP : P = 96 + 2 * dil) (y : (⟨5, ![2, n, 96, 96, 96]⟩ : Shape).Idx → EReal) {u : Shape} (v : u.Idx → EReal)
    (h : (⟨5, ![2, n, 96, 96, 96]⟩ : Shape).Pads ![0, 0, dil, dil, dil] ![0, 0, dil, dil, dil] ![0, 0, 0, 0, 0] ⟨5, ![2, n, P, P, P]⟩)
    (hu : 0 < u.numel) (hv : v (Shape.Idx.first hu) = 0) (i : Fin 2) (Y : Block n)
    (hy : ∀ (ci : Fin n) (d e f : Fin 96), y (ix5 i ci d e f) = Y ci d.val e.val f.val) (ci : Fin n) (p q r : Fin P) :
    pad ⟨5, ![2, n, P, P, P]⟩ ![0, 0, dil, dil, dil] ![0, 0, dil, dil, dil] ![0, 0, 0, 0, 0] y v h hu (ix5 i ci p q r)
      = padded dil Y ci p.val q.val r.val := by
  unfold padded
  by_cases hin : InBlock dil p.val q.val r.val
  · obtain ⟨h1, h2, h3, h4, h5, h6⟩ := hin
    rw [if_pos ⟨h1, h2, h3, h4, h5, h6⟩]
    refine (pad_apply_of_inside _ _ _ y v h hu _ (ix5 i ci (⟨p.val - dil, by omega⟩ : Fin 96) (⟨q.val - dil, by omega⟩ : Fin 96)
      (⟨r.val - dil, by omega⟩ : Fin 96)) ?_).trans (hy ci _ _ _)
    intro a; fin_cases a
    · show i.val = 0 + i.val * 1
      omega
    · show ci.val = 0 + ci.val * 1
      omega
    · show p.val = dil + (p.val - dil) * 1
      omega
    · show q.val = dil + (q.val - dil) * 1
      omega
    · show r.val = dil + (r.val - dil) * 1
      omega
  · rw [if_neg hin]
    have out : ∀ (a : Fin 5) (z : ℕ), (![0, 0, dil, dil, dil] : Fin 5 → ℕ) a = dil → (![2, n, 96, 96, 96] : Fin 5 → ℕ) a = 96 →
        (![0, 0, 0, 0, 0] : Fin 5 → ℕ) a = 0 →
        ((ix5 i ci p q r : (⟨5, ![2, n, P, P, P]⟩ : Shape).Idx) a).val = z → ¬(dil ≤ z ∧ z < 96 + dil) →
        pad ⟨5, ![2, n, P, P, P]⟩ ![0, 0, dil, dil, dil] ![0, 0, dil, dil, dil] ![0, 0, 0, 0, 0] y v h hu (ix5 i ci p q r) = 0 := by
      intro a z ha hs hi hz hnot
      refine (pad_apply_of_not_inside _ _ _ y v h hu _ a ?_).trans hv
      show ¬((![0, 0, dil, dil, dil] : Fin 5 → ℕ) a ≤ ((ix5 i ci p q r : (⟨5, ![2, n, P, P, P]⟩ : Shape).Idx) a).val
        ∧ (((ix5 i ci p q r : (⟨5, ![2, n, P, P, P]⟩ : Shape).Idx) a).val - (![0, 0, dil, dil, dil] : Fin 5 → ℕ) a) % ((![0, 0, 0, 0, 0] : Fin 5 → ℕ) a + 1) = 0
        ∧ (((ix5 i ci p q r : (⟨5, ![2, n, P, P, P]⟩ : Shape).Idx) a).val - (![0, 0, dil, dil, dil] : Fin 5 → ℕ) a) / ((![0, 0, 0, 0, 0] : Fin 5 → ℕ) a + 1)
          < (![2, n, 96, 96, 96] : Fin 5 → ℕ) a)
      rw [ha, hs, hi, hz]
      intro hcon
      rw [Nat.zero_add, Nat.div_one] at hcon
      exact hnot ⟨hcon.1, by omega⟩
    by_cases hp : dil ≤ p.val ∧ p.val < 96 + dil
    · by_cases hq : dil ≤ q.val ∧ q.val < 96 + dil
      · refine out 4 r.val rfl rfl rfl rfl fun hr => hin ⟨hp.1, hp.2, hq.1, hq.2, hr.1, hr.2⟩
      · exact out 3 q.val rfl rfl rfl rfl hq
    · exact out 2 p.val rfl rfl rfl rfl hp

/-- The contraction of a convolution: output channel by batch, over an input channel and three taps. -/
theorem dot_apply (wf : DotDims.WF ⟨5, ![2, n, 3, 3, 3]⟩ ⟨8, ![2, n, 3, 96, 3, 96, 3, 96]⟩ ⟨5, ![2, 2, 96, 96, 96]⟩
      [1, 2, 3, 4] [1, 2, 4, 6] [0] [0, 3, 5, 7] [] [])
    (l : (⟨5, ![2, n, 3, 3, 3]⟩ : Shape).Idx → EReal) (r : (⟨8, ![2, n, 3, 96, 3, 96, 3, 96]⟩ : Shape).Idx → EReal)
    (co i : Fin 2) (d h x : Fin 96) :
    Ideal.matmul (⟨[1, 2, 3, 4], [1, 2, 4, 6], [0], [0, 3, 5, 7], [], [], wf⟩ :
        DotDims ⟨5, ![2, n, 3, 3, 3]⟩ ⟨8, ![2, n, 3, 96, 3, 96, 3, 96]⟩ ⟨5, ![2, 2, 96, 96, 96]⟩) l r (fun _ => 0) (ix5 co i d h x)
      = ∑ ci : Fin n, ∑ a : Fin 3, ∑ b : Fin 3, ∑ c : Fin 3, l (ix5 co ci a b c) * r (ix8 i ci a d b h c x) := by
  let D : DotDims ⟨5, ![2, n, 3, 3, 3]⟩ ⟨8, ![2, n, 3, 96, 3, 96, 3, 96]⟩ ⟨5, ![2, 2, 96, 96, 96]⟩ :=
    ⟨[1, 2, 3, 4], [1, 2, 4, 6], [0], [0, 3, 5, 7], [], [], wf⟩
  show (0 : EReal) + ∑ k : D.contr.Idx, l (D.lhsIdx (ix5 co i d h x) k) * r (D.rhsIdx (ix5 co i d h x) k) = _
  rw [zero_add]
  let e : D.contr.Idx ≃ Fin n × Fin 3 × Fin 3 × Fin 3 :=
    { toFun := fun k => (k (0 : Fin 4), k (1 : Fin 4), k (2 : Fin 4), k (3 : Fin 4))
      invFun := fun t => fun a => match a with | ⟨0, _⟩ => t.1 | ⟨1, _⟩ => t.2.1 | ⟨2, _⟩ => t.2.2.1 | ⟨3, _⟩ => t.2.2.2
      left_inv := fun k => by funext a; match a with | ⟨0, _⟩ => rfl | ⟨1, _⟩ => rfl | ⟨2, _⟩ => rfl | ⟨3, _⟩ => rfl
      right_inv := fun t => rfl }
  have step : ∀ k : D.contr.Idx, l (D.lhsIdx (ix5 co i d h x) k) * r (D.rhsIdx (ix5 co i d h x) k)
      = (fun t : Fin n × Fin 3 × Fin 3 × Fin 3 => l (ix5 co t.1 t.2.1 t.2.2.1 t.2.2.2) * r (ix8 i t.1 t.2.1 d t.2.2.1 h t.2.2.2 x)) (e k) := by
    intro k
    have hl : D.lhsIdx (ix5 co i d h x) k = ix5 co (k (0 : Fin 4)) (k (1 : Fin 4)) (k (2 : Fin 4)) (k (3 : Fin 4)) := by
      funext a; fin_cases a <;> rfl
    have hr : D.rhsIdx (ix5 co i d h x) k = ix8 i (k (0 : Fin 4)) (k (1 : Fin 4)) d (k (2 : Fin 4)) h (k (3 : Fin 4)) x := by
      funext a; fin_cases a <;> rfl
    rw [hl, hr]
    rfl
  refine (Fintype.sum_equiv e _ (fun t : Fin n × Fin 3 × Fin 3 × Fin 3 => l (ix5 co t.1 t.2.1 t.2.2.1 t.2.2.2) * r (ix8 i t.1 t.2.1 d t.2.2.1 h t.2.2.2 x)) step).trans ?_
  simp only [Fintype.sum_prod_type]

end Cert.Proof

end
-- ==== Proof.Textbook.lean ====
module

public import proofs.«01_k».proof.Proof.Stack
public import proofs.«01_k».proof.Proof.Window

/-!
A textbook layer and the textbook head, read at a place.

The windows of a padded block, contracted with the weights, cut at zero and masked, are a layer of the encoder; two channels
contracted with two weights, through the sigmoid and masked, are the encoder's result.
-/

@[expose] public section

set_option maxRecDepth 16384

noncomputable section

namespace Cert.Proof

open Idealize.ShloMosaic
open scoped BigOperators

variable {n : ℕ}

/-- The three stackings of a padded batch read the padded block at each coordinate moved by its tap. -/
theorem windows (dil P : ℕ) (hP : P = 96 + 2 * dil) (o0 o1 o2 : ℕ) (ho : ∀ c : Fin 3, pick o0 o1 o2 c = dil * c.val)
    (x : (⟨5, ![2, n, P, P, P]⟩ : Shape).Idx → EReal) (i : Fin 2) (Y : Block n)
    (hx : ∀ (ci : Fin n) (p q r : Fin P), x (ix5 i ci p q r) = padded dil Y ci p.val q.val r.val)
    {s0 : (⟨5, ![2, n, P, P, P]⟩ : Shape).Slices ![0, 0, 0, 0, o0] ⟨5, ![2, n, P, P, 96]⟩}
    {s1 : (⟨5, ![2, n, P, P, P]⟩ : Shape).Slices ![0, 0, 0, 0, o1] ⟨5, ![2, n, P, P, 96]⟩}
    {s2 : (⟨5, ![2, n, P, P, P]⟩ : Shape).Slices ![0, 0, 0, 0, o2] ⟨5, ![2, n, P, P, 96]⟩}
    {hb : (⟨5, ![2, n, P, P, 96]⟩ : Shape).BroadcastsInDim ⟨6, ![2, n, P, P, 1, 96]⟩ ![0, 1, 2, 3, 5]}
    {hc : Shape.Concatenates [⟨6, ![2, n, P, P, 1, 96]⟩, ⟨6, ![2, n, P, P, 1, 96]⟩, ⟨6, ![2, n, P, P, 1, 96]⟩] ⟨6, ![2, n, P, P, 3, 96]⟩ 4}
    (y : (⟨6, ![2, n, P, P, 3, 96]⟩ : Shape).Idx → EReal)
    (hy : y = concatenate ⟨6, ![2, n, P, P, 3, 96]⟩ 4
      [⟨⟨6, ![2, n, P, P, 1, 96]⟩, broadcastInDim ⟨6, ![2, n, P, P, 1, 96]⟩ ![0, 1, 2, 3, 5] hb (extractStridedSlice ⟨5, ![2, n, P, P, 96]⟩ ![0, 0, 0, 0, o0] x s0)⟩,
       ⟨⟨6, ![2, n, P, P, 1, 96]⟩, broadcastInDim ⟨6, ![2, n, P, P, 1, 96]⟩ ![0, 1, 2, 3, 5] hb (extractStridedSlice ⟨5, ![2, n, P, P, 96]⟩ ![0, 0, 0, 0, o1] x s1)⟩,
       ⟨⟨6, ![2, n, P, P, 1, 96]⟩, broadcastInDim ⟨6, ![2, n, P, P, 1, 96]⟩ ![0, 1, 2, 3, 5] hb (extractStridedSlice ⟨5, ![2, n, P, P, 96]⟩ ![0, 0, 0, 0, o2] x s2)⟩] hc)
    {t0 : (⟨6, ![2, n, P, P, 3, 96]⟩ : Shape).Slices ![0, 0, 0, o0, 0, 0] ⟨6, ![2, n, P, 96, 3, 96]⟩}
    {t1 : (⟨6, ![2, n, P, P, 3, 96]⟩ : Shape).Slices ![0, 0, 0, o1, 0, 0] ⟨6, ![2, n, P, 96, 3, 96]⟩}
    {t2 : (⟨6, ![2, n, P, P, 3, 96]⟩ : Shape).Slices ![0, 0, 0, o2, 0, 0] ⟨6, ![2, n, P, 96, 3, 96]⟩}
    {hb' : (⟨6, ![2, n, P, 96, 3, 96]⟩ : Shape).BroadcastsInDim ⟨7, ![2, n, P, 1, 96, 3, 96]⟩ ![0, 1, 2, 4, 5, 6]}
    {hc' : Shape.Concatenates [⟨7, ![2, n, P, 1, 96, 3, 96]⟩, ⟨7, ![2, n, P, 1, 96, 3, 96]⟩, ⟨7, ![2, n, P, 1, 96, 3, 96]⟩]
      ⟨7, ![2, n, P, 3, 96, 3, 96]⟩ 3}
    (z : (⟨7, ![2, n, P, 3, 96, 3, 96]⟩ : Shape).Idx → EReal)
    (hz : z = concatenate ⟨7, ![2, n, P, 3, 96, 3, 96]⟩ 3
      [⟨⟨7, ![2, n, P, 1, 96, 3, 96]⟩, broadcastInDim ⟨7, ![2, n, P, 1, 96, 3, 96]⟩ ![0, 1, 2, 4, 5, 6] hb' (extractStridedSlice ⟨6, ![2, n, P, 96, 3, 96]⟩ ![0, 0, 0, o0, 0, 0] y t0)⟩,
       ⟨⟨7, ![2, n, P, 1, 96, 3, 96]⟩, broadcastInDim ⟨7, ![2, n, P, 1, 96, 3, 96]⟩ ![0, 1, 2, 4, 5, 6] hb' (extractStridedSlice ⟨6, ![2, n, P, 96, 3, 96]⟩ ![0, 0, 0, o1, 0, 0] y t1)⟩,
       ⟨⟨7, ![2, n, P, 1, 96, 3, 96]⟩, broadcastInDim ⟨7, ![2, n, P, 1, 96, 3, 96]⟩ ![0, 1, 2, 4, 5, 6] hb' (extractStridedSlice ⟨6, ![2, n, P, 96, 3, 96]⟩ ![0, 0, 0, o2, 0, 0] y t2)⟩] hc')
    {u0 : (⟨7, ![2, n, P, 3, 96, 3, 96]⟩ : Shape).Slices ![0, 0, o0, 0, 0, 0, 0] ⟨7, ![2, n, 96, 3, 96, 3, 96]⟩}
    {u1 : (⟨7, ![2, n, P, 3, 96, 3, 96]⟩ : Shape).Slices ![0, 0, o1, 0, 0, 0, 0] ⟨7, ![2, n, 96, 3, 96, 3, 96]⟩}
    {u2 : (⟨7, ![2, n, P, 3, 96, 3, 96]⟩ : Shape).Slices ![0, 0, o2, 0, 0, 0, 0] ⟨7, ![2, n, 96, 3, 96, 3, 96]⟩}
    {hb'' : (⟨7, ![2, n, 96, 3, 96, 3, 96]⟩ : Shape).BroadcastsInDim ⟨8, ![2, n, 1, 96, 3, 96, 3, 96]⟩ ![0, 1, 3, 4, 5, 6, 7]}
    {hc'' : Shape.Concatenates [⟨8, ![2, n, 1, 96, 3, 96, 3, 96]⟩, ⟨8, ![2, n, 1, 96, 3, 96, 3, 96]⟩, ⟨8, ![2, n, 1, 96, 3, 96, 3, 96]⟩]
      ⟨8, ![2, n, 3, 96, 3, 96, 3, 96]⟩ 2}
    (X : (⟨8, ![2, n, 3, 96, 3, 96, 3, 96]⟩ : Shape).Idx → EReal)
    (hX : X = concatenate ⟨8, ![2, n, 3, 96, 3, 96, 3, 96]⟩ 2
      [⟨⟨8, ![2, n, 1, 96, 3, 96, 3, 96]⟩, broadcastInDim ⟨8, ![2, n, 1, 96, 3, 96, 3, 96]⟩ ![0, 1, 3, 4, 5, 6, 7] hb'' (extractStridedSlice ⟨7, ![2, n, 96, 3, 96, 3, 96]⟩ ![0, 0, o0, 0, 0, 0, 0] z u0)⟩,
       ⟨⟨8, ![2, n, 1, 96, 3, 96, 3, 96]⟩, broadcastInDim ⟨8, ![2, n, 1, 96, 3, 96, 3, 96]⟩ ![0, 1, 3, 4, 5, 6, 7] hb'' (extractStridedSlice ⟨7, ![2, n, 96, 3, 96, 3, 96]⟩ ![0, 0, o1, 0, 0, 0, 0] z u1)⟩,
       ⟨⟨8, ![2, n, 1, 96, 3, 96, 3, 96]⟩, broadcastInDim ⟨8, ![2, n, 1, 96, 3, 96, 3, 96]⟩ ![0, 1, 3, 4, 5, 6, 7] hb'' (extractStridedSlice ⟨7, ![2, n, 96, 3, 96, 3, 96]⟩ ![0, 0, o2, 0, 0, 0, 0] z u2)⟩] hc'')
    (ci : Fin n) (a : Fin 3) (d : Fin 96) (b : Fin 3) (h : Fin 96) (c : Fin 3) (w : Fin 96) :
    X (ix8 i ci a d b h c w) = padded dil Y ci (d.val + dil * a.val) (h.val + dil * b.val) (w.val + dil * c.val) := by
  have bound : ∀ (k : Fin 3) (v : Fin 96), pick o0 o1 o2 k + v.val < P := by
    intro k v
    have hk : dil * k.val ≤ 2 * dil := by rw [Nat.mul_comm 2]; exact Nat.mul_le_mul_left _ (by omega)
    rw [ho k, hP]
    omega
  rw [hX, stack_first z o0 o1 o2 u0 u1 u2 hb'' hc'' i ci a d b h c w (bound a d), hz,
    stack_mid y o0 o1 o2 t0 t1 t2 hb' hc' i ci _ b h c w (bound b h), hy,
    stack_last x o0 o1 o2 s0 s1 s2 hb hc i ci _ _ c w (bound c w), hx]
  show padded dil Y ci (pick o0 o1 o2 a + d.val) (pick o0 o1 o2 b + h.val) (pick o0 o1 o2 c + w.val) = _
  rw [ho a, ho b, ho c, Nat.add_comm (dil * a.val), Nat.add_comm (dil * b.val), Nat.add_comm (dil * c.val)]

/-- A textbook layer: the windows contracted with the weights, channels and batches swapped, cut at zero and masked. -/
theorem layer_term (dil : ℕ) (i : Fin 2)
    (wf : DotDims.WF ⟨5, ![2, n, 3, 3, 3]⟩ ⟨8, ![2, n, 3, 96, 3, 96, 3, 96]⟩ ⟨5, ![2, 2, 96, 96, 96]⟩
      [1, 2, 3, 4] [1, 2, 4, 6] [0] [0, 3, 5, 7] [] [])
    (W : FVec Ideal ⟨5, ![2, n, 3, 3, 3]⟩ .f32) (X : FVec Ideal ⟨8, ![2, n, 3, 96, 3, 96, 3, 96]⟩ .f32)
    (M : FVec Ideal ⟨5, ![2, 1, 96, 96, 96]⟩ .f32) (Z : FVec Ideal ⟨0, ![]⟩ .f32) (hZ : ∀ j, Z j = (0 : EReal))
    (hbM : (⟨5, ![2, 1, 96, 96, 96]⟩ : Shape).BroadcastsInDim ⟨5, ![2, 2, 96, 96, 96]⟩ ![0, 1, 2, 3, 4])
    (hbZ : (⟨0, ![]⟩ : Shape).BroadcastsInDim ⟨5, ![2, 2, 96, 96, 96]⟩ ![])
    (ht : (⟨5, ![2, 2, 96, 96, 96]⟩ : Shape).Transposes [1, 0, 2, 3, 4] ⟨5, ![2, 2, 96, 96, 96]⟩)
    (D : Block 1) (Y : Block n) (w : Weights n)
    (hM : ∀ d h x : Fin 96, M (ix5 i (0 : Fin 1) d h x) = maskOf (D 0 d.val h.val x.val))
    (hW : ∀ co ci a b c, W (ix5 co ci a b c) = w co ci a b c)
    (hX : ∀ (ci : Fin n) (a : Fin 3) (d : Fin 96) (b : Fin 3) (h : Fin 96) (c : Fin 3) (x : Fin 96),
      X (ix8 i ci a d b h c x) = padded dil Y ci (d.val + dil * a.val) (h.val + dil * b.val) (x.val + dil * c.val))
    (co : Fin 2) (d h x : Fin 96) :
    mulf (broadcastInDim ⟨5, ![2, 2, 96, 96, 96]⟩ ![0, 1, 2, 3, 4] hbM M)
      (maximumf (transpose ⟨5, ![2, 2, 96, 96, 96]⟩ [1, 0, 2, 3, 4]
        (Host.dotGeneral (⟨[1, 2, 3, 4], [1, 2, 4, 6], [0], [0, 3, 5, 7], [], [], wf⟩ :
          DotDims ⟨5, ![2, n, 3, 3, 3]⟩ ⟨8, ![2, n, 3, 96, 3, 96, 3, 96]⟩ ⟨5, ![2, 2, 96, 96, 96]⟩) none W X) ht)
        (broadcastInDim ⟨5, ![2, 2, 96, 96, 96]⟩ ![] hbZ Z)) (ix5 i co d h x)
      = layer dil w D Y co d.val h.val x.val := by
  have h1 : broadcastInDim ⟨5, ![2, 2, 96, 96, 96]⟩ ![0, 1, 2, 3, 4] hbM M (ix5 i co d h x) = maskOf (D 0 d.val h.val x.val) := by
    rw [broadcastInDim_apply (k := ix5 i (0 : Fin 1) d h x), hM]
    intro a; fin_cases a <;> rfl
  have h2 : broadcastInDim ⟨5, ![2, 2, 96, 96, 96]⟩ ![] hbZ Z (ix5 i co d h x) = (0 : EReal) := hZ _
  have h3 : transpose ⟨5, ![2, 2, 96, 96, 96]⟩ [1, 0, 2, 3, 4]
        (Host.dotGeneral (⟨[1, 2, 3, 4], [1, 2, 4, 6], [0], [0, 3, 5, 7], [], [], wf⟩ :
          DotDims ⟨5, ![2, n, 3, 3, 3]⟩ ⟨8, ![2, n, 3, 96, 3, 96, 3, 96]⟩ ⟨5, ![2, 2, 96, 96, 96]⟩) none W X) ht (ix5 i co d h x)
      = conv dil w Y co d.val h.val x.val := by
    rw [transpose_apply _ _ ht _ (ix5 co i d h x), Host.dotGeneral, Ideal.dotGeneral_def, dot_apply]
    · unfold conv tapTerm
      simp only [hW, hX]
    · intro b; fin_cases b <;> rfl
  show broadcastInDim ⟨5, ![2, 2, 96, 96, 96]⟩ ![0, 1, 2, 3, 4] hbM M (ix5 i co d h x) * max _ (broadcastInDim ⟨5, ![2, 2, 96, 96, 96]⟩ ![] hbZ Z (ix5 i co d h x)) = _
  rw [h1, h2, h3]
  rfl

/-- Two channels contracted with two weights: output channel by batch. -/
theorem dot_two (wf : DotDims.WF ⟨2, ![2, 2]⟩ ⟨5, ![2, 2, 96, 96, 96]⟩ ⟨5, ![2, 2, 96, 96, 96]⟩ [1] [1] [0] [0, 2, 3, 4] [] [])
    (l : (⟨2, ![2, 2]⟩ : Shape).Idx → EReal) (r : (⟨5, ![2, 2, 96, 96, 96]⟩ : Shape).Idx → EReal) (co i : Fin 2) (d h x : Fin 96) :
    Ideal.matmul (⟨[1], [1], [0], [0, 2, 3, 4], [], [], wf⟩ :
        DotDims ⟨2, ![2, 2]⟩ ⟨5, ![2, 2, 96, 96, 96]⟩ ⟨5, ![2, 2, 96, 96, 96]⟩) l r (fun _ => 0) (ix5 co i d h x)
      = l (ix2 co (0 : Fin 2)) * r (ix5 i (0 : Fin 2) d h x) + l (ix2 co (1 : Fin 2)) * r (ix5 i (1 : Fin 2) d h x) := by
  let D : DotDims ⟨2, ![2, 2]⟩ ⟨5, ![2, 2, 96, 96, 96]⟩ ⟨5, ![2, 2, 96, 96, 96]⟩ := ⟨[1], [1], [0], [0, 2, 3, 4], [], [], wf⟩
  show (0 : EReal) + ∑ k : D.contr.Idx, l (D.lhsIdx (ix5 co i d h x) k) * r (D.rhsIdx (ix5 co i d h x) k) = _
  rw [zero_add]
  let e : D.contr.Idx ≃ Fin 2 :=
    { toFun := fun k => k (0 : Fin 1)
      invFun := fun t => fun a => match a with | ⟨0, _⟩ => t
      left_inv := fun k => by funext a; match a with | ⟨0, _⟩ => rfl
      right_inv := fun t => rfl }
  have step : ∀ k : D.contr.Idx, l (D.lhsIdx (ix5 co i d h x) k) * r (D.rhsIdx (ix5 co i d h x) k)
      = (fun t : Fin 2 => l (ix2 co t) * r (ix5 i t d h x)) (e k) := by
    intro k
    have hl : D.lhsIdx (ix5 co i d h x) k = ix2 co (k (0 : Fin 1)) := by
      funext a; fin_cases a <;> rfl
    have hr : D.rhsIdx (ix5 co i d h x) k = ix5 i (k (0 : Fin 1)) d h x := by
      funext a; fin_cases a <;> rfl
    rw [hl, hr]
    rfl
  exact (Fintype.sum_equiv e _ (fun t : Fin 2 => l (ix2 co t) * r (ix5 i t d h x)) step).trans (Fin.sum_univ_two _)

/-- The textbook head: two channels weighted, through the sigmoid, masked. -/
theorem head_term (i : Fin 2) (wf : DotDims.WF ⟨2, ![2, 2]⟩ ⟨5, ![2, 2, 96, 96, 96]⟩ ⟨5, ![2, 2, 96, 96, 96]⟩ [1] [1] [0] [0, 2, 3, 4] [] [])
    (A : FVec Ideal ⟨5, ![2, 2, 1, 1, 1]⟩ .f32) (X : FVec Ideal ⟨5, ![2, 2, 96, 96, 96]⟩ .f32)
    (M : FVec Ideal ⟨5, ![2, 1, 96, 96, 96]⟩ .f32) (E : FVec Ideal ⟨0, ![]⟩ .f32) (hE : ∀ j, E j = (1 : EReal))
    (hA : (⟨5, ![2, 2, 1, 1, 1]⟩ : Shape).ShapeCasts ⟨2, ![2, 2]⟩)
    (hbM : (⟨5, ![2, 1, 96, 96, 96]⟩ : Shape).BroadcastsInDim ⟨5, ![2, 2, 96, 96, 96]⟩ ![0, 1, 2, 3, 4])
    (hbE : (⟨0, ![]⟩ : Shape).BroadcastsInDim ⟨5, ![2, 2, 96, 96, 96]⟩ ![])
    (ht : (⟨5, ![2, 2, 96, 96, 96]⟩ : Shape).Transposes [1, 0, 2, 3, 4] ⟨5, ![2, 2, 96, 96, 96]⟩)
    (D : Block 1) (Y : Block 2)
    (hM : ∀ d h x : Fin 96, M (ix5 i (0 : Fin 1) d h x) = maskOf (D 0 d.val h.val x.val))
    (hX : ∀ (ci : Fin 2) (d h x : Fin 96), X (ix5 i ci d h x) = Y ci d.val h.val x.val)
    (co : Fin 2) (d h x : Fin 96) :
    mulf (broadcastInDim ⟨5, ![2, 2, 96, 96, 96]⟩ ![0, 1, 2, 3, 4] hbM M)
      (Host.divf (broadcastInDim ⟨5, ![2, 2, 96, 96, 96]⟩ ![] hbE E)
        (addf (broadcastInDim ⟨5, ![2, 2, 96, 96, 96]⟩ ![] hbE E)
          (Host.exp (Host.negf (transpose ⟨5, ![2, 2, 96, 96, 96]⟩ [1, 0, 2, 3, 4]
            (Host.dotGeneral (⟨[1], [1], [0], [0, 2, 3, 4], [], [], wf⟩ :
              DotDims ⟨2, ![2, 2]⟩ ⟨5, ![2, 2, 96, 96, 96]⟩ ⟨5, ![2, 2, 96, 96, 96]⟩) none (shapeCast ⟨2, ![2, 2]⟩ A hA) X) ht))))) (ix5 i co d h x)
      = sigmoidHead (A (ix5 co (0 : Fin 2) (0 : Fin 1) (0 : Fin 1) (0 : Fin 1))) (A (ix5 co (1 : Fin 2) (0 : Fin 1) (0 : Fin 1) (0 : Fin 1)))
          D Y d.val h.val x.val := by
  have h1 : broadcastInDim ⟨5, ![2, 2, 96, 96, 96]⟩ ![0, 1, 2, 3, 4] hbM M (ix5 i co d h x) = maskOf (D 0 d.val h.val x.val) := by
    rw [broadcastInDim_apply (k := ix5 i (0 : Fin 1) d h x), hM]
    intro a; fin_cases a <;> rfl
  have h2 : broadcastInDim ⟨5, ![2, 2, 96, 96, 96]⟩ ![] hbE E (ix5 i co d h x) = (1 : EReal) := hE _
  have hcast : ∀ ci : Fin 2, shapeCast ⟨2, ![2, 2]⟩ A hA (ix2 co ci) = A (ix5 co ci (0 : Fin 1) (0 : Fin 1) (0 : Fin 1)) := by
    intro ci
    refine shapeCast_apply A hA _ _ ?_
    rw [Shape.rowMajor_val_five, Shape.rowMajor_val_two]
    show (((co.val * 2 + ci.val) * 1 + 0) * 1 + 0) * 1 + 0 = co.val * 2 + ci.val
    omega
  have h3 : transpose ⟨5, ![2, 2, 96, 96, 96]⟩ [1, 0, 2, 3, 4]
        (Host.dotGeneral (⟨[1], [1], [0], [0, 2, 3, 4], [], [], wf⟩ :
          DotDims ⟨2, ![2, 2]⟩ ⟨5, ![2, 2, 96, 96, 96]⟩ ⟨5, ![2, 2, 96, 96, 96]⟩) none (shapeCast ⟨2, ![2, 2]⟩ A hA) X) ht (ix5 i co d h x)
      = A (ix5 co (0 : Fin 2) (0 : Fin 1) (0 : Fin 1) (0 : Fin 1)) * Y 0 d.val h.val x.val
        + A (ix5 co (1 : Fin 2) (0 : Fin 1) (0 : Fin 1) (0 : Fin 1)) * Y 1 d.val h.val x.val := by
    rw [transpose_apply _ _ ht _ (ix5 co i d h x), Host.dotGeneral, Ideal.dotGeneral_def, dot_two, hcast, hcast, hX, hX]
    intro b; fin_cases b <;> rfl
  show broadcastInDim ⟨5, ![2, 2, 96, 96, 96]⟩ ![0, 1, 2, 3, 4] hbM M (ix5 i co d h x)
    * Ideal.div (broadcastInDim ⟨5, ![2, 2, 96, 96, 96]⟩ ![] hbE E (ix5 i co d h x))
      (broadcastInDim ⟨5, ![2, 2, 96, 96, 96]⟩ ![] hbE E (ix5 i co d h x) + Ideal.exp (-_)) = _
  rw [h1, h2, h3, div_divisor, one_mul]
  rfl

end Cert.Proof

end
-- ==== Proof.Reference.lean ====
module

public import proofs.«01_k».proof.Proof.Textbook
public import proofs.«01_k».proof.Proof.Gen.ReferenceIdeal.Run

/-!
The reference's value: the encoder of each batch.

The reference's four layers are textbook layers of the batch's voxels, so the array it slices its two results from is, at
every batch and output channel, the masked sigmoid of the encoder.
-/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe
open scoped BigOperators

/-- The voxels of batch `i` as a block of one channel. -/
def batchVoxels (A : FVec Ideal S2x96x96x96 .f32) (i : Fin 2) : Block 1 := fun _ d h x =>
  A (ix4 i (⟨d % 96, Nat.mod_lt _ (by decide)⟩ : Fin 96) (⟨h % 96, Nat.mod_lt _ (by decide)⟩ : Fin 96) (⟨x % 96, Nat.mod_lt _ (by decide)⟩ : Fin 96))

/-- At a place of the array the block is the array. -/
theorem batchVoxels_apply (A : FVec Ideal S2x96x96x96 .f32) (i : Fin 2) (ci : Fin 1) (d h x : Fin 96) :
    batchVoxels A i ci d.val h.val x.val = A (ix4 i d h x) := by
  refine congrArg A (funext fun a => ?_)
  have hd := d.isLt; have hh := h.isLt; have hx := x.isLt
  fin_cases a
  · rfl
  · exact Fin.ext (Nat.mod_eq_of_lt hd)
  · exact Fin.ext (Nat.mod_eq_of_lt hh)
  · exact Fin.ext (Nat.mod_eq_of_lt hx)

/-- The weights of a layer of one input channel. -/
def weights1 (A : FVec Ideal S2x1x3x3x3 .f32) : Weights 1 := fun co ci a b c => A (ix5 co ci a b c)

/-- The weights of a layer of two input channels. -/
def weights2 (A : FVec Ideal S2x2x3x3x3 .f32) : Weights 2 := fun co ci a b c => A (ix5 co ci a b c)

/-- The padding value is zero. -/
theorem padValue (j : S_.Idx) : (sitofp .f32 (constantI S_ 32 0#32) : FVec Ideal S_ .f32) j = (0 : EReal) := by
  show (((0#32 : BitVec 32).toInt : ℝ) : EReal) = 0
  simp

variable (V : Valuation τ sig (Elt Ideal))

/-- The arguments of the reference. -/
abbrev A0 : FVec Ideal S2x96x96x96 .f32 := V (Proc.devRef .tc main_arg0)
/-- The first layer's weights. -/
abbrev A1 : FVec Ideal S2x1x3x3x3 .f32 := V (Proc.devRef .tc main_arg1)
/-- The second layer's weights. -/
abbrev A2 : FVec Ideal S2x2x3x3x3 .f32 := V (Proc.devRef .tc main_arg2)
/-- The third layer's weights. -/
abbrev A3 : FVec Ideal S2x2x3x3x3 .f32 := V (Proc.devRef .tc main_arg3)
/-- The fourth layer's weights. -/
abbrev A4 : FVec Ideal S2x2x3x3x3 .f32 := V (Proc.devRef .tc main_arg4)
/-- The head's weights. -/
abbrev A5 : FVec Ideal S2x2x1x1x1 .f32 := V (Proc.devRef .tc main_arg5)

/-- The mask, read at a place. -/
theorem mask_apply (i : Fin 2) (d h x : Fin 96) :
    (res_main_v3 V : FVec Ideal S2x1x96x96x96 .f32) (ix5 i (0 : Fin 1) d h x) = maskOf (batchVoxels (A0 V) i 0 d.val h.val x.val) := by
  unfold res_main_v3
  rw [batchVoxels_apply, broadcastInDim_apply (k := ix4 i d h x)]
  · show (((Ideal.cmp .une (A0 V (ix4 i d h x)) (Ideal.ofBits .f32 0x00000000#32)).toNat : ℝ) : EReal) = _
    rw [Ideal.ofBits_zero_f32]
    unfold maskOf
    by_cases hv : (A0 V (ix4 i d h x) : EReal) = 0
    · simp [Ideal.cmp, hv]
    · simp [Ideal.cmp, hv]
  · intro a; fin_cases a <;> rfl

/-- The padded voxels, read at a place. -/
theorem v5_apply (i : Fin 2) (ci : Fin 1) (p q r : Fin 98) :
    (res_main_v5 V : FVec Ideal S2x1x98x98x98 .f32) (ix5 i ci p q r) = padded 1 (batchVoxels (A0 V) i) ci p.val q.val r.val := by
  unfold res_main_v5
  refine pad_apply_padded 1 98 rfl _ _ _ _ (padValue _) i _ (fun ci d e f => ?_) ci p q r
  rw [batchVoxels_apply, broadcastInDim_apply (k := ix4 i d e f)]
  intro a; fin_cases a <;> rfl

/-- The first layer of a batch. -/
abbrev layer1 (i : Fin 2) : Block 2 := layer 1 (weights1 (A1 V)) (batchVoxels (A0 V) i) (batchVoxels (A0 V) i)
/-- The second layer of a batch. -/
abbrev layer2 (i : Fin 2) : Block 2 := layer 2 (weights2 (A2 V)) (batchVoxels (A0 V) i) (layer1 V i)
/-- The third layer of a batch. -/
abbrev layer3 (i : Fin 2) : Block 2 := layer 4 (weights2 (A3 V)) (batchVoxels (A0 V) i) (layer2 V i)
/-- The fourth layer of a batch. -/
abbrev layer4 (i : Fin 2) : Block 2 := layer 2 (weights2 (A4 V)) (batchVoxels (A0 V) i) (layer3 V i)

/-- The first layer padded, read at a place. -/
theorem v32_apply (i : Fin 2) (ci : Fin 2) (p q r : Fin 100) :
    (res_main_v32 V : FVec Ideal S2x2x100x100x100 .f32) (ix5 i ci p q r) = padded 2 (layer1 V i) ci p.val q.val r.val := by
  unfold res_main_v32
  refine pad_apply_padded 2 100 rfl _ _ _ _ (padValue _) i _ (fun ci d e f => ?_) ci p q r
  refine layer_term 1 i _ (A1 V) _ (res_main_v3 V) _ (fun _ => Ideal.ofBits_zero_f32) _ _ _ (batchVoxels (A0 V) i) (batchVoxels (A0 V) i)
    (weights1 (A1 V)) (mask_apply V i) (fun _ _ _ _ _ => rfl) ?_ ci d e f
  exact windows 1 98 rfl 0 1 2 (by decide) (res_main_v5 V) i _ (v5_apply V i) (res_main_v12 V) rfl (res_main_v19 V) rfl _ rfl

/-- The second layer padded, read at a place. -/
theorem v59_apply (i : Fin 2) (ci : Fin 2) (p q r : Fin 104) :
    (res_main_v59 V : FVec Ideal S2x2x104x104x104 .f32) (ix5 i ci p q r) = padded 4 (layer2 V i) ci p.val q.val r.val := by
  unfold res_main_v59
  refine pad_apply_padded 4 104 rfl _ _ _ _ (padValue _) i _ (fun ci d e f => ?_) ci p q r
  refine layer_term 2 i _ (A2 V) _ (res_main_v3 V) _ (fun _ => Ideal.ofBits_zero_f32) _ _ _ (batchVoxels (A0 V) i) (layer1 V i)
    (weights2 (A2 V)) (mask_apply V i) (fun _ _ _ _ _ => rfl) ?_ ci d e f
  exact windows 2 100 rfl 0 2 4 (by decide) (res_main_v32 V) i _ (v32_apply V i) (res_main_v39 V) rfl (res_main_v46 V) rfl _ rfl

/-- The third layer padded, read at a place. -/
theorem v86_apply (i : Fin 2) (ci : Fin 2) (p q r : Fin 100) :
    (res_main_v86 V : FVec Ideal S2x2x100x100x100 .f32) (ix5 i ci p q r) = padded 2 (layer3 V i) ci p.val q.val r.val := by
  unfold res_main_v86
  refine pad_apply_padded 2 100 rfl _ _ _ _ (padValue _) i _ (fun ci d e f => ?_) ci p q r
  refine layer_term 4 i _ (A3 V) _ (res_main_v3 V) _ (fun _ => Ideal.ofBits_zero_f32) _ _ _ (batchVoxels (A0 V) i) (layer2 V i)
    (weights2 (A3 V)) (mask_apply V i) (fun _ _ _ _ _ => rfl) ?_ ci d e f
  exact windows 4 104 rfl 0 4 8 (by decide) (res_main_v59 V) i _ (v59_apply V i) (res_main_v66 V) rfl (res_main_v73 V) rfl _ rfl

/-- What the reference slices its results from: at a batch and an output channel, the masked sigmoid of the encoder. -/
theorem v123_apply (i co : Fin 2) (d h x : Fin 96) :
    (res_main_v123 V : FVec Ideal S2x2x96x96x96 .f32) (ix5 i co d h x)
      = sigmoidHead (A5 V (ix5 co (0 : Fin 2) (0 : Fin 1) (0 : Fin 1) (0 : Fin 1))) (A5 V (ix5 co (1 : Fin 2) (0 : Fin 1) (0 : Fin 1) (0 : Fin 1)))
          (batchVoxels (A0 V) i)
          (encoder (weights1 (A1 V)) (weights2 (A2 V)) (weights2 (A3 V)) (weights2 (A4 V)) (batchVoxels (A0 V) i)) d.val h.val x.val := by
  unfold res_main_v123
  refine head_term i _ (A5 V) _ (res_main_v3 V) _ (fun _ => Ideal.ofBits_one_f32) _ _ _ _ (batchVoxels (A0 V) i) (layer4 V i)
    (mask_apply V i) (fun ci d e f => ?_) co d h x
  refine layer_term 2 i _ (A4 V) _ (res_main_v3 V) _ (fun _ => Ideal.ofBits_zero_f32) _ _ _ (batchVoxels (A0 V) i) (layer3 V i)
    (weights2 (A4 V)) (mask_apply V i) (fun _ _ _ _ _ => rfl) ?_ ci d e f
  exact windows 2 100 rfl 0 2 4 (by decide) (res_main_v86 V) i _ (v86_apply V i) (res_main_v93 V) rfl (res_main_v100 V) rfl _ rfl

end Cert.Proof.Ref

end
-- ==== Proof.HostValue.lean ====
module

public import proofs.«01_k».proof.Proof.Run
public import proofs.«01_k».proof.Proof.KernelValue
public import proofs.«01_k».proof.Proof.Reference
public import Idealize.ShloMosaic.Lib.Claim

/-!
The kernel program's two results, as the encoder of each batch.

Before the first launch the host lays the five arguments of weights one after the other and takes the first batch; between
the launches it takes the second; after them it stacks what the launches left.
-/

@[expose] public section

set_option maxRecDepth 16384

noncomputable section

namespace Cert.Proof.Enc

open Cert.KernelIdeal Cert.KernelIdeal.Gen
open Idealize.ShloMosaic Idealize.ShloMosaic.TcCoe Idealize.SL.Sem
open scoped BigOperators

/-! ## The flat weights -/

/-- A piece of the flat weights: from word `base` on they are the piece. -/
theorem word_piece {N : ℕ} (xs : List ((s : Shape) × (s.Idx → EReal))) (h : Shape.Concatenates (xs.map (·.1)) S382 0)
    (k : ℕ) (hk : k < xs.length) (y : (⟨1, ![N]⟩ : Shape).Idx → EReal) (hy : xs[k] = ⟨⟨1, ![N]⟩, y⟩) (base : ℕ)
    (hbase : (((xs.take k).map (·.1)).map fun s => if h : s.rank = S382.rank then s.size ((0 : Fin 1).cast h.symm) else 0).sum = base)
    (p : Fin N) (hp : p.val + base < 382) :
    word (F := Ideal) (concatenate S382 0 xs h) (p.val + base) = y (ix1 p) := by
  refine concatenate_apply_piece (t := S382) 0 xs h _ k hk ⟨1, ![N]⟩ y hy rfl base hbase (ix1 p) ?_ ?_
  · intro b hb
    exact absurd (Subsingleton.elim (α := Fin 1) _ _) hb
  · show base + p.val = (p.val + base) % 382
    rw [Nat.mod_eq_of_lt hp, Nat.add_comm]

/-- A layer's weights laid flat, read at a word. -/
theorem flat_apply {n N : ℕ} (A : (⟨5, ![2, n, 3, 3, 3]⟩ : Shape).Idx → EReal) (h : (⟨5, ![2, n, 3, 3, 3]⟩ : Shape).ShapeCasts ⟨1, ![N]⟩)
    (co : Fin 2) (ci : Fin n) (a b c : Fin 3) (p : Fin N) (hp : p.val = 27 * (n * co.val + ci.val) + 9 * a.val + 3 * b.val + c.val) :
    shapeCast ⟨1, ![N]⟩ A h (ix1 p) = A (ix5 co ci a b c) := by
  refine shapeCast_apply A h _ _ ?_
  rw [Shape.rowMajor_val_five, Shape.rowMajor_val_one]
  show (((co.val * n + ci.val) * 3 + a.val) * 3 + b.val) * 3 + c.val = p.val
  rw [hp, Nat.mul_comm n]
  omega

/-- The arguments of weights laid one after the other. -/
def flatWeights (A1 : FVec Ideal S2x1x3x3x3 .f32) (A2 A3 A4 : FVec Ideal S2x2x3x3x3 .f32) (A5 : FVec Ideal S2x2x1x1x1 .f32) : FVec Ideal S382 .f32 :=
  concatenate S382 0 [⟨S54, shapeCast S54 A1 shapeCasts_S2x1x3x3x3_S54⟩, ⟨S108, shapeCast S108 A2 shapeCasts_S2x2x3x3x3_S108⟩,
    ⟨S108, shapeCast S108 A3 shapeCasts_S2x2x3x3x3_S108⟩, ⟨S108, shapeCast S108 A4 shapeCasts_S2x2x3x3x3_S108⟩,
    ⟨S4, shapeCast S4 A5 shapeCasts_S2x2x1x1x1_S4⟩] concatenates_S54_S108_S108_S108_S4_S382_d0

section Weights

variable (A1 : FVec Ideal S2x1x3x3x3 .f32) (A2 A3 A4 : FVec Ideal S2x2x3x3x3 .f32) (A5 : FVec Ideal S2x2x1x1x1 .f32)

/-- The first layer's weights. -/
theorem flat1 : weightsAt 1 (flatWeights A1 A2 A3 A4 A5) 0 = Ref.weights1 A1 := by
  funext co ci a b c
  have hp : 27 * (1 * co.val + ci.val) + 9 * a.val + 3 * b.val + c.val < 54 := by omega
  exact (word_piece _ _ 0 (by show 0 < 5; decide) _ rfl 0 rfl (⟨_, hp⟩ : Fin 54) (by omega)).trans (flat_apply A1 _ co ci a b c _ rfl)

/-- The second layer's weights. -/
theorem flat2 : weightsAt 2 (flatWeights A1 A2 A3 A4 A5) 54 = Ref.weights2 A2 := by
  funext co ci a b c
  have hp : 27 * (2 * co.val + ci.val) + 9 * a.val + 3 * b.val + c.val < 108 := by omega
  exact (word_piece _ _ 1 (by show 1 < 5; decide) _ rfl 54 rfl (⟨_, hp⟩ : Fin 108) (by omega)).trans (flat_apply A2 _ co ci a b c _ rfl)

/-- The third layer's weights. -/
theorem flat3 : weightsAt 2 (flatWeights A1 A2 A3 A4 A5) 162 = Ref.weights2 A3 := by
  funext co ci a b c
  have hp : 27 * (2 * co.val + ci.val) + 9 * a.val + 3 * b.val + c.val < 108 := by omega
  exact (word_piece _ _ 2 (by show 2 < 5; decide) _ rfl 162 rfl (⟨_, hp⟩ : Fin 108) (by omega)).trans (flat_apply A3 _ co ci a b c _ rfl)

/-- The fourth layer's weights. -/
theorem flat4 : weightsAt 2 (flatWeights A1 A2 A3 A4 A5) 270 = Ref.weights2 A4 := by
  funext co ci a b c
  have hp : 27 * (2 * co.val + ci.val) + 9 * a.val + 3 * b.val + c.val < 108 := by omega
  exact (word_piece _ _ 3 (by show 3 < 5; decide) _ rfl 270 rfl (⟨_, hp⟩ : Fin 108) (by omega)).trans (flat_apply A4 _ co ci a b c _ rfl)

/-- The head's weights. -/
theorem flat5 (co ci : Fin 2) (n : ℕ) (hn : n = 2 * co.val + ci.val + 378) :
    word (F := Ideal) (flatWeights A1 A2 A3 A4 A5) n = A5 (ix5 co ci (0 : Fin 1) (0 : Fin 1) (0 : Fin 1)) := by
  subst hn
  have hp : 2 * co.val + ci.val < 4 := by omega
  refine (word_piece _ _ 4 (by show 4 < 5; decide) _ rfl 378 rfl (⟨_, hp⟩ : Fin 4) (by show 2 * co.val + ci.val + 378 < 382; omega)).trans ?_
  refine shapeCast_apply A5 _ _ _ ?_
  rw [Shape.rowMajor_val_five, Shape.rowMajor_val_one]
  show (((co.val * 2 + ci.val) * 1 + 0) * 1 + 0) * 1 + 0 = 2 * co.val + ci.val
  omega

end Weights

/-- The voxels of a batch taken out of the data. -/
theorem voxels_batch (A : FVec Ideal S2x96x96x96 .f32) (i : Fin 2) (o : ℕ) (ho : o = i.val) (hs : S2x96x96x96.Slices ![o, 0, 0, 0] S1x96x96x96)
    (hc : S1x96x96x96.ShapeCasts S96x96x96) :
    voxels (shapeCast S96x96x96 (extractStridedSlice S1x96x96x96 ![o, 0, 0, 0] A hs) hc) = Ref.batchVoxels A i := by
  funext _ d h x
  unfold voxels Ref.batchVoxels
  generalize (⟨d % 96, _⟩ : Fin 96) = d'
  generalize (⟨h % 96, _⟩ : Fin 96) = h'
  generalize (⟨x % 96, _⟩ : Fin 96) = x'
  rw [shapeCast_apply _ hc (ix3 d' h' x') (ix4 (0 : Fin 1) d' h' x'), extractStridedSlice_apply (k := ix4 i d' h' x')]
  · intro a; fin_cases a
    · exact ho.symm
    · exact (Nat.zero_add _).symm
    · exact (Nat.zero_add _).symm
    · exact (Nat.zero_add _).symm
  · rw [Shape.rowMajor_val_four, Shape.rowMajor_val_three]
    show ((0 * 96 + d'.val) * 96 + h'.val) * 96 + x'.val = (d'.val * 96 + h'.val) * 96 + x'.val
    omega

/-! ## What the host computes -/

variable (m : (ℓ : Loc nD τ sig) → Buf (Elt Ideal) ℓ) (c : Dev nD)

/-- The data as launched. -/
abbrev B0 : FVec Ideal S2x96x96x96 .f32 := V0 m c main_arg0
/-- The first layer's weights as launched. -/
abbrev B1 : FVec Ideal S2x1x3x3x3 .f32 := V0 m c main_arg1
/-- The second layer's weights as launched. -/
abbrev B2 : FVec Ideal S2x2x3x3x3 .f32 := V0 m c main_arg2
/-- The third layer's weights as launched. -/
abbrev B3 : FVec Ideal S2x2x3x3x3 .f32 := V0 m c main_arg3
/-- The fourth layer's weights as launched. -/
abbrev B4 : FVec Ideal S2x2x3x3x3 .f32 := V0 m c main_arg4
/-- The head's weights as launched. -/
abbrev B5 : FVec Ideal S2x2x1x1x1 .f32 := V0 m c main_arg5

/-- The first launch's weights. -/
theorem V1_v5 : V1 m c main_v5 = flatWeights (B1 m c) (B2 m c) (B3 m c) (B4 m c) (B5 m c) := by
  unfold flatWeights
  show StableHlo.after hostOps0 (V0 m c) main_v5 = _
  after_results_simp
  rfl

/-- The first launch's voxels. -/
theorem V1_v7 : V1 m c main_v7 = shapeCast S96x96x96 (extractStridedSlice S1x96x96x96 ![0, 0, 0, 0] (B0 m c) slices_S2x96x96x96_S1x96x96x96_0_0_0_0)
    shapeCasts_S1x96x96x96_S96x96x96 := by
  show StableHlo.after hostOps0 (V0 m c) main_v7 = _
  after_results_simp
  rfl

/-- The second launch's weights are the first's. -/
theorem V3_v5 : V3 m (outs m) c main_v5 = flatWeights (B1 m c) (B2 m c) (B3 m c) (B4 m c) (B5 m c) :=
  (V3_of m (outs m) c main_v5 (by decide)).trans ((V2_of m (outs m) c main_v5 (by decide)).trans (V1_v5 m c))

/-- The second launch's voxels. -/
theorem V3_v10 : V3 m (outs m) c main_v10 = shapeCast S96x96x96 (extractStridedSlice S1x96x96x96 ![1, 0, 0, 0] (B0 m c) slices_S2x96x96x96_S1x96x96x96_1_0_0_0)
    shapeCasts_S1x96x96x96_S96x96x96 := by
  have h : V2 m (outs m) c main_arg0 = B0 m c := (V2_of m (outs m) c main_arg0 (by decide)).trans (V1_of m c main_arg0 (by decide))
  rw [← h]
  show StableHlo.after hostOps1 (V2 m (outs m) c) main_v10 = _
  after_results_simp
  rfl

/-- Two volumes stacked as the two batches of an array of one channel. -/
def stackBatches (x y : FVec Ideal S96x96x96 .f32) : FVec Ideal S2x1x96x96x96 .f32 :=
  broadcastInDim S2x1x96x96x96 ![0, 2, 3, 4] bcast_S2x96x96x96_S2x1x96x96x96_0_2_3_4
    (concatenate S2x96x96x96 0 [⟨S1x96x96x96, broadcastInDim S1x96x96x96 ![1, 2, 3] bcast_S96x96x96_S1x96x96x96_1_2_3 x⟩,
      ⟨S1x96x96x96, broadcastInDim S1x96x96x96 ![1, 2, 3] bcast_S96x96x96_S1x96x96x96_1_2_3 y⟩] concatenates_S1x96x96x96_S1x96x96x96_S2x96x96x96_d0)

/-- The first result of the program. -/
theorem V5_v15 : V5 m (outs m) c main_v15 = stackBatches (V4 m (outs m) c main_v8_0) (V4 m (outs m) c main_v11_0) := by
  unfold stackBatches
  show StableHlo.after hostOps2 (V4 m (outs m) c) main_v15 = _
  generalize V4 m (outs m) c = V
  after_results_simp
  rfl

/-- The second result of the program. -/
theorem V5_v19 : V5 m (outs m) c main_v19 = stackBatches (V4 m (outs m) c main_v8_1) (V4 m (outs m) c main_v11_1) := by
  unfold stackBatches
  show StableHlo.after hostOps2 (V4 m (outs m) c) main_v19 = _
  generalize V4 m (outs m) c = V
  after_results_simp
  after_results_loop
  rfl

/-- A stack of two volumes, read at a place. -/
theorem stackBatches_apply (x y : FVec Ideal S96x96x96 .f32) (i : Fin 2) (d h w : Fin 96) :
    stackBatches x y (ix5 i (0 : Fin 1) d h w) = (match i with | 0 => x | 1 => y) (ix3 d h w) := by
  unfold stackBatches
  rw [broadcastInDim_apply (k := ix4 i d h w)]
  · have one : ∀ z : FVec Ideal S96x96x96 .f32, broadcastInDim S1x96x96x96 ![1, 2, 3] bcast_S96x96x96_S1x96x96x96_1_2_3 z (ix4 (0 : Fin 1) d h w) = z (ix3 d h w) := by
      intro z
      rw [broadcastInDim_apply (k := ix3 d h w)]
      intro a; fin_cases a <;> rfl
    fin_cases i
    · refine (concatenate_apply_piece (t := S2x96x96x96) 0 _ _ _ 0 (by show 0 < 2; decide) S1x96x96x96 _ rfl rfl 0 rfl (ix4 (0 : Fin 1) d h w) ?_ rfl).trans (one x)
      intro b hb; fin_cases b <;> first | rfl | exact absurd rfl hb
    · refine (concatenate_apply_piece (t := S2x96x96x96) 0 _ _ _ 1 (by show 1 < 2; decide) S1x96x96x96 _ rfl rfl 1 rfl (ix4 (0 : Fin 1) d h w) ?_ rfl).trans (one y)
      intro b hb; fin_cases b <;> first | rfl | exact absurd rfl hb
  · intro a; fin_cases a <;> rfl

/-- The encoder of a batch, with the arguments as launched. -/
abbrev encoded (i : Fin 2) : Block 2 :=
  encoder (Ref.weights1 (B1 m c)) (Ref.weights2 (B2 m c)) (Ref.weights2 (B3 m c)) (Ref.weights2 (B4 m c)) (Ref.batchVoxels (B0 m c) i)

/-- A launch's result: the masked sigmoid of the encoder of the batch it is given, at the two words of its output channel. -/
theorem launch_apply (D : FVec Ideal S96x96x96 .f32) (i co : Fin 2) (hD : voxels D = Ref.batchVoxels (B0 m c) i) (n : ℕ) (hn : n = 2 * co.val + 378)
    (d h x : Fin 96) :
    result (F := Ideal) D (flatWeights (B1 m c) (B2 m c) (B3 m c) (B4 m c) (B5 m c)) n (ix3 d h x)
      = sigmoidHead (B5 m c (ix5 co (0 : Fin 2) (0 : Fin 1) (0 : Fin 1) (0 : Fin 1))) (B5 m c (ix5 co (1 : Fin 2) (0 : Fin 1) (0 : Fin 1) (0 : Fin 1)))
          (Ref.batchVoxels (B0 m c) i) (encoded m c i) d.val h.val x.val := by
  rw [result_apply, hD, flat5 _ _ _ _ _ co 0 n (by rw [hn]; rfl), flat5 _ _ _ _ _ co 1 (n + 1) (by rw [hn]; rfl)]
  unfold flatEncoder
  rw [hD, flat1, flat2, flat3, flat4]

/-- The program's results at a place: the masked sigmoid of the encoder of the batch. -/
theorem results_apply (i : Fin 2) (d h x : Fin 96) :
    (V5 m (outs m) c main_v15 : FVec Ideal S2x1x96x96x96 .f32) (ix5 i (0 : Fin 1) d h x)
        = sigmoidHead (B5 m c (ix5 (0 : Fin 2) (0 : Fin 2) (0 : Fin 1) (0 : Fin 1) (0 : Fin 1))) (B5 m c (ix5 (0 : Fin 2) (1 : Fin 2) (0 : Fin 1) (0 : Fin 1) (0 : Fin 1)))
          (Ref.batchVoxels (B0 m c) i) (encoded m c i) d.val h.val x.val
      ∧ (V5 m (outs m) c main_v19 : FVec Ideal S2x1x96x96x96 .f32) (ix5 i (0 : Fin 1) d h x)
        = sigmoidHead (B5 m c (ix5 (1 : Fin 2) (0 : Fin 2) (0 : Fin 1) (0 : Fin 1) (0 : Fin 1))) (B5 m c (ix5 (1 : Fin 2) (1 : Fin 2) (0 : Fin 1) (0 : Fin 1) (0 : Fin 1)))
          (Ref.batchVoxels (B0 m c) i) (encoded m c i) d.val h.val x.val := by
  have k0 : ∀ r : Ref sig .tc, r ∉ ([main_v11_0, main_v11_1] : List (Ref sig .tc)) → r ∉ hostOps1_W → V4 m (outs m) c r = V2 m (outs m) c r :=
    fun r h4 h3 => (V4_of m (outs m) c r h4).trans (V3_of m (outs m) c r h3)
  have e0 : voxels (V1 m c main_v7) = Ref.batchVoxels (B0 m c) 0 := by rw [V1_v7]; exact voxels_batch (B0 m c) 0 0 rfl _ _
  have e1 : voxels (V3 m (outs m) c main_v10) = Ref.batchVoxels (B0 m c) 1 := by rw [V3_v10]; exact voxels_batch (B0 m c) 1 1 rfl _ _
  constructor
  · rw [V5_v15, stackBatches_apply, k0 main_v8_0 (by decide) (by decide), outs_v8_0, outs_v11_0, V1_v5, V3_v5]
    fin_cases i
    · exact launch_apply m c _ 0 0 e0 378 rfl d h x
    · exact launch_apply m c _ 1 0 e1 378 rfl d h x
  · rw [V5_v19, stackBatches_apply, k0 main_v8_1 (by decide) (by decide), outs_v8_1, outs_v11_1, V1_v5, V3_v5]
    fin_cases i
    · exact launch_apply m c _ 0 1 e0 380 rfl d h x
    · exact launch_apply m c _ 1 1 e1 380 rfl d h x

end Cert.Proof.Enc

end
-- ==== Proof.Equal.lean ====
module

public import proofs.«01_k».proof.Proof.Frames
public import proofs.«01_k».proof.Proof.HostValue

/-!
The idealized kernel and the reference leave equal results.

Both programs' results are the masked sigmoid of the encoder of each batch, so from equal arguments they are equal at every
place.
-/

@[expose] public section

set_option maxRecDepth 16384

noncomputable section

namespace Cert.Proof

open Idealize.ShloMosaic Idealize.ShloMosaic.TcCoe Idealize.SL.Sem
open Cert.KernelIdeal.Gen

/-- A slice of one output channel agrees with an array that agrees with it at every place. -/
theorem slice_eq (y : FVec Ideal ⟨5, ![2, 1, 96, 96, 96]⟩ .f32) (x : FVec Ideal ⟨5, ![2, 2, 96, 96, 96]⟩ .f32) (co : Fin 2) (o : ℕ) (ho : o = co.val)
    (hs : (⟨5, ![2, 2, 96, 96, 96]⟩ : Shape).Slices ![0, o, 0, 0, 0] ⟨5, ![2, 1, 96, 96, 96]⟩)
    (h : ∀ (i : Fin 2) (d e f : Fin 96), x (ix5 i co d e f) = y (ix5 i (0 : Fin 1) d e f)) :
    extractStridedSlice ⟨5, ![2, 1, 96, 96, 96]⟩ ![0, o, 0, 0, 0] x hs = y := by
  funext j
  have hj : j = ix5 (j 0 : Fin 2) (0 : Fin 1) (j 2 : Fin 96) (j 3 : Fin 96) (j 4 : Fin 96) := by
    have h1 : j 1 = (0 : Fin 1) := Subsingleton.elim (α := Fin 1) _ _
    exact (eq_ix5 j).trans (by rw [h1]; rfl)
  generalize (j 0 : Fin 2) = i at hj
  generalize (j 2 : Fin 96) = d at hj
  generalize (j 3 : Fin 96) = e at hj
  generalize (j 4 : Fin 96) = f at hj
  subst hj
  refine (extractStridedSlice_apply (k := ix5 i co d e f) _ _ _ _ ?_).trans (h i d e f)
  intro a; fin_cases a
  · exact (Nat.zero_add _).symm
  · show co.val = o + 0
    omega
  · exact (Nat.zero_add _).symm
  · exact (Nat.zero_add _).symm
  · exact (Nat.zero_add _).symm

/-- From equal arguments the two programs' results are equal, as extended reals, at every place. -/
theorem equal_results : Cert.algebraic_KernelIdeal_ReferenceIdeal := by
  intro m g m' g' _ hargs
  refine ⟨fun c => V5 m (Enc.outs m) c Cert.KernelIdeal.main_v15, fun c => V5 m (Enc.outs m) c Cert.KernelIdeal.main_v19, ?_, ?_⟩
  · exact (θ_run Cert.KernelIdeal.defs _ _).mono (fun _ h c => ⟨(h.1 c).2.1, (h.1 c).2.2, (h.1 c).1⟩) (Enc.runs (F := Ideal) m g)
  · refine (θ_run Cert.ReferenceIdeal.defs _ _).mono (fun r h c => ?_) (Cert.ReferenceIdeal.Value.run m' g')
    obtain ⟨h0, h1, h2, h3, h4, h5⟩ := hargs c
    have e0 : Ref.A0 (StableHlo.launchContents m' c) = Enc.B0 m c := h0
    have e1 : Ref.A1 (StableHlo.launchContents m' c) = Enc.B1 m c := h1
    have e2 : Ref.A2 (StableHlo.launchContents m' c) = Enc.B2 m c := h2
    have e3 : Ref.A3 (StableHlo.launchContents m' c) = Enc.B3 m c := h3
    have e4 : Ref.A4 (StableHlo.launchContents m' c) = Enc.B4 m c := h4
    have e5 : Ref.A5 (StableHlo.launchContents m' c) = Enc.B5 m c := h5
    refine ⟨(h c).1.trans (slice_eq _ _ 0 0 rfl _ fun i d e f => ?_), (h c).2.1.trans (slice_eq _ _ 1 1 rfl _ fun i d e f => ?_), (h c).2.2⟩
    · refine (Ref.v123_apply _ i 0 d e f).trans ?_
      rw [e0, e1, e2, e3, e4, e5]
      exact ((Enc.results_apply m c i d e f).1).symm
    · refine (Ref.v123_apply _ i 1 d e f).trans ?_
      rw [e0, e1, e2, e3, e4, e5]
      exact ((Enc.results_apply m c i d e f).2).symm

end Cert.Proof

end
-- ==== Proof.lean ====
module

public import proofs.«01_k».proof.Proof.Equal

/-!
The proof of the claims: the three frames, the kernel's idealization, and the equality with the reference.
-/

@[expose] public section

noncomputable section

namespace Cert.Proof

/-- Every claim holds. -/
theorem claim : Cert.Claim :=
  ⟨Cert.Kernel.Gen.facts, Cert.KernelIdeal.Gen.facts, Cert.ReferenceIdeal.Gen.facts,
    frame_kernel, frame_ideal, frame_reference, trivial, equal_results⟩

end Cert.Proof

end
